-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_finite_ReferenceIdeal.lean ====
abbrev S2x1024x512 : Shape := ⟨3, ![2, 1024, 512]⟩
abbrev S512x4096 : Shape := ⟨2, ![512, 4096]⟩
abbrev S4096x512 : Shape := ⟨2, ![4096, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S2x1024x512 .f32) (main_arg1 : FVec F S512x4096 .f32) (main_arg2 : FVec F S512x4096 .f32) (main_arg3 : FVec F S512x4096 .f32) (main_arg4 : FVec F S4096x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S4x2x128x512 : Shape := ⟨4, ![4, 2, 128, 512]⟩
abbrev S3x2x128x512 : Shape := ⟨4, ![3, 2, 128, 512]⟩
abbrev S2x1152x512 : Shape := ⟨3, ![2, 1152, 512]⟩
abbrev S2x1024x512 : Shape := ⟨3, ![2, 1024, 512]⟩
abbrev S2x256x512 : Shape := ⟨3, ![2, 256, 512]⟩
abbrev S512x1536 : Shape := ⟨2, ![512, 1536]⟩
abbrev S4 : Shape := ⟨1, ![4]⟩
abbrev S3 : Shape := ⟨1, ![3]⟩
abbrev S_ : Shape := ⟨0, ![]⟩
abbrev S1 : Shape := ⟨1, ![1]⟩
abbrev S1x2x128x512 : Shape := ⟨4, ![1, 2, 128, 512]⟩
abbrev S256x512 : Shape := ⟨2, ![256, 512]⟩
abbrev S256x1536 : Shape := ⟨2, ![256, 1536]⟩
abbrev S128x1536 : Shape := ⟨2, ![128, 1536]⟩
abbrev S128x512 : Shape := ⟨2, ![128, 512]⟩
abbrev S1x128x512 : Shape := ⟨3, ![1, 128, 512]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩
abbrev S256x64 : Shape := ⟨2, ![256, 64]⟩
abbrev S1024x64 : Shape := ⟨2, ![1024, 64]⟩
abbrev S64x512 : Shape := ⟨2, ![64, 512]⟩
abbrev S256x1024 : Shape := ⟨2, ![256, 1024]⟩
abbrev S256 : Shape := ⟨1, ![256]⟩
abbrev S256x1 : Shape := ⟨2, ![256, 1]⟩
abbrev S1x256x512 : Shape := ⟨3, ![1, 256, 512]⟩

abbrev nBuf : Space → Nat
  | .hbm => 6
  | .vmem => 18
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S2x128x512, .bf16⟩
  | .local _ .vmem, ⟨7, _⟩ => ⟨S4x2x128x512, .bf16⟩
  | .local _ .vmem, ⟨8, _⟩ => ⟨S3x2x128x512, .bf16⟩
  | .local _ .vmem, ⟨9, _⟩ => ⟨S2x1152x512, .bf16⟩
  | .local _ .vmem, ⟨10, _⟩ => ⟨S2x1024x512, .bf16⟩
  | .local _ .vmem, ⟨11, _⟩ => ⟨S2x1024x512, .bf16⟩
  | .local _ .vmem, ⟨12, _⟩ => ⟨S2x256x512, .bf16⟩
  | .local _ .vmem, ⟨13, _⟩ => ⟨S2x256x512, .bf16⟩
  | .local _ .vmem, ⟨14, _⟩ => ⟨S3x2x128x512, .bf16⟩
  | .local _ .vmem, ⟨15, _⟩ => ⟨S4x2x128x512, .bf16⟩
  | .local _ .vmem, ⟨16, _⟩ => ⟨S512x1536, .bf16⟩
  | .local _ .vmem, ⟨17, _⟩ => ⟨S512x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_41 : BitVec 32 := 1#32
  let v60 : BitVec 32 := Scalar.muli v24 c1_i32_41
  let v61 : BitVec 32 := Scalar.addi c0_i32_42 v60
  v61.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_49 : BitVec 32 := 1#32
  let v68 : BitVec 32 := Scalar.muli v13 c1_i32_49
  let v69 : BitVec 32 := Scalar.addi c0_i32_50 v68
  v69.toNat
def k0_off1 (d0 : Dev nD) : Fin 3 → Nat :=
  let c0_59 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v77 : BitVec 32 := Scalar.muli v2 c128_i32
  let v84 : Index := Scalar.indexCast v77
  let c0_60 : Index := 0#32
  ![0, v84.toNat, 0]
def k0_off2 (d0 : Dev nD) : Fin 3 → Nat :=
  let c0_61 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v77 : BitVec 32 := Scalar.muli v2 c128_i32
  let v89 : Index := Scalar.indexCast v77
  let c0_62 : Index := 0#32
  ![0, v89.toNat, 0]
def k0_off3 (d0 : Dev nD) : Fin 3 → Nat :=
  let c1 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v77 : BitVec 32 := Scalar.muli v2 c128_i32
  let v103 : Index := Scalar.indexCast v77
  let c0_67 : Index := 0#32
  ![1, v103.toNat, 0]
def k0_off4 (d0 : Dev nD) : Fin 3 → Nat :=
  let c1_68 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v77 : BitVec 32 := Scalar.muli v2 c128_i32
  let v108 : Index := Scalar.indexCast v77
  let c0_69 : Index := 0#32
  ![1, v108.toNat, 0]
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_86 : BitVec 32 := 1#32
  let v126 : BitVec 32 := Scalar.muli v24 c1_i32_86
  let v127 : BitVec 32 := Scalar.addi c0_i32_87 v126
  v127.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_106 : BitVec 32 := 1#32
  let v142 : BitVec 32 := Scalar.muli v13 c1_i32_106
  let v143 : BitVec 32 := Scalar.addi c0_i32_107 v142
  v143.toNat
def k0_off5 (d0 : Dev nD) (c0_i32_118 : BitVec 32) : Fin 3 → Nat :=
  let c0_130 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.subi v2 c0_i32_118
  let c1_i32_119 : BitVec 32 := 1#32
  let v155 : BitVec 32 := Scalar.subi v154 c1_i32_119
  let c8_i32_120 : BitVec 32 := 8#32
  let c0_i32_121 : BitVec 32 := 0#32
  let v156 : BitVec 1 := Scalar.cmpi .eq c8_i32_120 c0_i32_121
  let c1_i32_122 : BitVec 32 := 1#32
  let v157 : BitVec 32 := Scalar.select v156 c1_i32_122 c8_i32_120
  let v158 : BitVec 32 := Scalar.remsi v155 v157
  let c0_i32_124 : BitVec 32 := 0#32
  let v160 : BitVec 1 := Scalar.cmpi .slt v158 c0_i32_124
  let c0_i32_125 : BitVec 32 := 0#32
  let v161 : BitVec 1 := Scalar.cmpi .slt v157 c0_i32_125
  let v162 : BitVec 1 := Scalar.xori v160 v161
  let c0_i32_123 : BitVec 32 := 0#32
  let v159 : BitVec 1 := Scalar.cmpi .ne v158 c0_i32_123
  let v163 : BitVec 1 := Scalar.andi v162 v159
  let v164 : BitVec 32 := Scalar.addi v158 v157
  let v165 : BitVec 32 := Scalar.select v163 v164 v158
  let c128_i32_126 : BitVec 32 := 128#32
  let v166 : BitVec 32 := Scalar.muli v165 c128_i32_126
  let v173 : Index := Scalar.indexCast v166
  let c0_131 : Index := 0#32
  ![0, v173.toNat, 0]
def k0_off6 (d0 : Dev nD) (c0_i32_118 : BitVec 32) : Fin 3 → Nat :=
  let c0_132 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.subi v2 c0_i32_118
  let c1_i32_119 : BitVec 32 := 1#32
  let v155 : BitVec 32 := Scalar.subi v154 c1_i32_119
  let c8_i32_120 : BitVec 32 := 8#32
  let c0_i32_121 : BitVec 32 := 0#32
  let v156 : BitVec 1 := Scalar.cmpi .eq c8_i32_120 c0_i32_121
  let c1_i32_122 : BitVec 32 := 1#32
  let v157 : BitVec 32 := Scalar.select v156 c1_i32_122 c8_i32_120
  let v158 : BitVec 32 := Scalar.remsi v155 v157
  let c0_i32_124 : BitVec 32 := 0#32
  let v160 : BitVec 1 := Scalar.cmpi .slt v158 c0_i32_124
  let c0_i32_125 : BitVec 32 := 0#32
  let v161 : BitVec 1 := Scalar.cmpi .slt v157 c0_i32_125
  let v162 : BitVec 1 := Scalar.xori v160 v161
  let c0_i32_123 : BitVec 32 := 0#32
  let v159 : BitVec 1 := Scalar.cmpi .ne v158 c0_i32_123
  let v163 : BitVec 1 := Scalar.andi v162 v159
  let v164 : BitVec 32 := Scalar.addi v158 v157
  let v165 : BitVec 32 := Scalar.select v163 v164 v158
  let c128_i32_126 : BitVec 32 := 128#32
  let v166 : BitVec 32 := Scalar.muli v165 c128_i32_126
  let v178 : Index := Scalar.indexCast v166
  let c0_133 : Index := 0#32
  ![0, v178.toNat, 0]
def k0_off7 (d0 : Dev nD) (c0_i32_118 : BitVec 32) : Fin 3 → Nat :=
  let c1_138 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.subi v2 c0_i32_118
  let c1_i32_119 : BitVec 32 := 1#32
  let v155 : BitVec 32 := Scalar.subi v154 c1_i32_119
  let c8_i32_120 : BitVec 32 := 8#32
  let c0_i32_121 : BitVec 32 := 0#32
  let v156 : BitVec 1 := Scalar.cmpi .eq c8_i32_120 c0_i32_121
  let c1_i32_122 : BitVec 32 := 1#32
  let v157 : BitVec 32 := Scalar.select v156 c1_i32_122 c8_i32_120
  let v158 : BitVec 32 := Scalar.remsi v155 v157
  let c0_i32_124 : BitVec 32 := 0#32
  let v160 : BitVec 1 := Scalar.cmpi .slt v158 c0_i32_124
  let c0_i32_125 : BitVec 32 := 0#32
  let v161 : BitVec 1 := Scalar.cmpi .slt v157 c0_i32_125
  let v162 : BitVec 1 := Scalar.xori v160 v161
  let c0_i32_123 : BitVec 32 := 0#32
  let v159 : BitVec 1 := Scalar.cmpi .ne v158 c0_i32_123
  let v163 : BitVec 1 := Scalar.andi v162 v159
  let v164 : BitVec 32 := Scalar.addi v158 v157
  let v165 : BitVec 32 := Scalar.select v163 v164 v158
  let c128_i32_126 : BitVec 32 := 128#32
  let v166 : BitVec 32 := Scalar.muli v165 c128_i32_126
  let v192 : Index := Scalar.indexCast v166
  let c0_139 : Index := 0#32
  ![1, v192.toNat, 0]
def k0_off8 (d0 : Dev nD) (c0_i32_118 : BitVec 32) : Fin 3 → Nat :=
  let c1_140 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.subi v2 c0_i32_118
  let c1_i32_119 : BitVec 32 := 1#32
  let v155 : BitVec 32 := Scalar.subi v154 c1_i32_119
  let c8_i32_120 : BitVec 32 := 8#32
  let c0_i32_121 : BitVec 32 := 0#32
  let v156 : BitVec 1 := Scalar.cmpi .eq c8_i32_120 c0_i32_121
  let c1_i32_122 : BitVec 32 := 1#32
  let v157 : BitVec 32 := Scalar.select v156 c1_i32_122 c8_i32_120
  let v158 : BitVec 32 := Scalar.remsi v155 v157
  let c0_i32_124 : BitVec 32 := 0#32
  let v160 : BitVec 1 := Scalar.cmpi .slt v158 c0_i32_124
  let c0_i32_125 : BitVec 32 := 0#32
  let v161 : BitVec 1 := Scalar.cmpi .slt v157 c0_i32_125
  let v162 : BitVec 1 := Scalar.xori v160 v161
  let c0_i32_123 : BitVec 32 := 0#32
  let v159 : BitVec 1 := Scalar.cmpi .ne v158 c0_i32_123
  let v163 : BitVec 1 := Scalar.andi v162 v159
  let v164 : BitVec 32 := Scalar.addi v158 v157
  let v165 : BitVec 32 := Scalar.select v163 v164 v158
  let c128_i32_126 : BitVec 32 := 128#32
  let v166 : BitVec 32 := Scalar.muli v165 c128_i32_126
  let v197 : Index := Scalar.indexCast v166
  let c0_141 : Index := 0#32
  ![1, v197.toNat, 0]
def k0_off9 (d0 : Dev nD) (c0_i32_150 : BitVec 32) : Fin 3 → Nat :=
  let c0_162 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v211 : BitVec 32 := Scalar.addi v2 c0_i32_150
  let c1_i32_151 : BitVec 32 := 1#32
  let v212 : BitVec 32 := Scalar.addi v211 c1_i32_151
  let c8_i32_152 : BitVec 32 := 8#32
  let c0_i32_153 : BitVec 32 := 0#32
  let v213 : BitVec 1 := Scalar.cmpi .eq c8_i32_152 c0_i32_153
  let c1_i32_154 : BitVec 32 := 1#32
  let v214 : BitVec 32 := Scalar.select v213 c1_i32_154 c8_i32_152
  let v215 : BitVec 32 := Scalar.remsi v212 v214
  let c0_i32_156 : BitVec 32 := 0#32
  let v217 : BitVec 1 := Scalar.cmpi .slt v215 c0_i32_156
  let c0_i32_157 : BitVec 32 := 0#32
  let v218 : BitVec 1 := Scalar.cmpi .slt v214 c0_i32_157
  let v219 : BitVec 1 := Scalar.xori v217 v218
  let c0_i32_155 : BitVec 32 := 0#32
  let v216 : BitVec 1 := Scalar.cmpi .ne v215 c0_i32_155
  let v220 : BitVec 1 := Scalar.andi v219 v216
  let v221 : BitVec 32 := Scalar.addi v215 v214
  let v222 : BitVec 32 := Scalar.select v220 v221 v215
  let c128_i32_158 : BitVec 32 := 128#32
  let v223 : BitVec 32 := Scalar.muli v222 c128_i32_158
  let v230 : Index := Scalar.indexCast v223
  let c0_163 : Index := 0#32
  ![0, v230.toNat, 0]
def k0_off10 (d0 : Dev nD) (c0_i32_150 : BitVec 32) : Fin 3 → Nat :=
  let c0_164 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v211 : BitVec 32 := Scalar.addi v2 c0_i32_150
  let c1_i32_151 : BitVec 32 := 1#32
  let v212 : BitVec 32 := Scalar.addi v211 c1_i32_151
  let c8_i32_152 : BitVec 32 := 8#32
  let c0_i32_153 : BitVec 32 := 0#32
  let v213 : BitVec 1 := Scalar.cmpi .eq c8_i32_152 c0_i32_153
  let c1_i32_154 : BitVec 32 := 1#32
  let v214 : BitVec 32 := Scalar.select v213 c1_i32_154 c8_i32_152
  let v215 : BitVec 32 := Scalar.remsi v212 v214
  let c0_i32_156 : BitVec 32 := 0#32
  let v217 : BitVec 1 := Scalar.cmpi .slt v215 c0_i32_156
  let c0_i32_157 : BitVec 32 := 0#32
  let v218 : BitVec 1 := Scalar.cmpi .slt v214 c0_i32_157
  let v219 : BitVec 1 := Scalar.xori v217 v218
  let c0_i32_155 : BitVec 32 := 0#32
  let v216 : BitVec 1 := Scalar.cmpi .ne v215 c0_i32_155
  let v220 : BitVec 1 := Scalar.andi v219 v216
  let v221 : BitVec 32 := Scalar.addi v215 v214
  let v222 : BitVec 32 := Scalar.select v220 v221 v215
  let c128_i32_158 : BitVec 32 := 128#32
  let v223 : BitVec 32 := Scalar.muli v222 c128_i32_158
  let v235 : Index := Scalar.indexCast v223
  let c0_165 : Index := 0#32
  ![0, v235.toNat, 0]
def k0_off11 (d0 : Dev nD) (c0_i32_150 : BitVec 32) : Fin 3 → Nat :=
  let c1_170 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v211 : BitVec 32 := Scalar.addi v2 c0_i32_150
  let c1_i32_151 : BitVec 32 := 1#32
  let v212 : BitVec 32 := Scalar.addi v211 c1_i32_151
  let c8_i32_152 : BitVec 32 := 8#32
  let c0_i32_153 : BitVec 32 := 0#32
  let v213 : BitVec 1 := Scalar.cmpi .eq c8_i32_152 c0_i32_153
  let c1_i32_154 : BitVec 32 := 1#32
  let v214 : BitVec 32 := Scalar.select v213 c1_i32_154 c8_i32_152
  let v215 : BitVec 32 := Scalar.remsi v212 v214
  let c0_i32_156 : BitVec 32 := 0#32
  let v217 : BitVec 1 := Scalar.cmpi .slt v215 c0_i32_156
  let c0_i32_157 : BitVec 32 := 0#32
  let v218 : BitVec 1 := Scalar.cmpi .slt v214 c0_i32_157
  let v219 : BitVec 1 := Scalar.xori v217 v218
  let c0_i32_155 : BitVec 32 := 0#32
  let v216 : BitVec 1 := Scalar.cmpi .ne v215 c0_i32_155
  let v220 : BitVec 1 := Scalar.andi v219 v216
  let v221 : BitVec 32 := Scalar.addi v215 v214
  let v222 : BitVec 32 := Scalar.select v220 v221 v215
  let c128_i32_158 : BitVec 32 := 128#32
  let v223 : BitVec 32 := Scalar.muli v222 c128_i32_158
  let v249 : Index := Scalar.indexCast v223
  let c0_171 : Index := 0#32
  ![1, v249.toNat, 0]
def k0_off12 (d0 : Dev nD) (c0_i32_150 : BitVec 32) : Fin 3 → Nat :=
  let c1_172 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v211 : BitVec 32 := Scalar.addi v2 c0_i32_150
  let c1_i32_151 : BitVec 32 := 1#32
  let v212 : BitVec 32 := Scalar.addi v211 c1_i32_151
  let c8_i32_152 : BitVec 32 := 8#32
  let c0_i32_153 : BitVec 32 := 0#32
  let v213 : BitVec 1 := Scalar.cmpi .eq c8_i32_152 c0_i32_153
  let c1_i32_154 : BitVec 32 := 1#32
  let v214 : BitVec 32 := Scalar.select v213 c1_i32_154 c8_i32_152
  let v215 : BitVec 32 := Scalar.remsi v212 v214
  let c0_i32_156 : BitVec 32 := 0#32
  let v217 : BitVec 1 := Scalar.cmpi .slt v215 c0_i32_156
  let c0_i32_157 : BitVec 32 := 0#32
  let v218 : BitVec 1 := Scalar.cmpi .slt v214 c0_i32_157
  let v219 : BitVec 1 := Scalar.xori v217 v218
  let c0_i32_155 : BitVec 32 := 0#32
  let v216 : BitVec 1 := Scalar.cmpi .ne v215 c0_i32_155
  let v220 : BitVec 1 := Scalar.andi v219 v216
  let v221 : BitVec 32 := Scalar.addi v215 v214
  let v222 : BitVec 32 := Scalar.select v220 v221 v215
  let c128_i32_158 : BitVec 32 := 128#32
  let v223 : BitVec 32 := Scalar.muli v222 c128_i32_158
  let v254 : Index := Scalar.indexCast v223
  let c0_173 : Index := 0#32
  ![1, v254.toNat, 0]
def k0_dev7 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_194 : BitVec 32 := 1#32
  let v274 : BitVec 32 := Scalar.muli v24 c1_i32_194
  let v275 : BitVec 32 := Scalar.addi c0_i32_195 v274
  v275.toNat
def k0_dev8 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_218 : BitVec 32 := 1#32
  let v292 : BitVec 32 := Scalar.muli v13 c1_i32_218
  let v293 : BitVec 32 := Scalar.addi c0_i32_219 v292
  v293.toNat
def k0_dev9 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_305 : BitVec 32 := 1#32
  let v424 : BitVec 32 := Scalar.muli v24 c1_i32_305
  let v425 : BitVec 32 := Scalar.addi c0_i32_306 v424
  v425.toNat
@[reducible] def k0_t1_loop : Scf.Loop 32 :=
  let c0_i32_509 : BitVec 32 := 0#32
  let c4_i32 : BitVec 32 := 4#32
  let v672 : BitVec 32 := Scalar.addi c0_i32_509 c4_i32
  let c1_i32_510 : BitVec 32 := 1#32
  ⟨c0_i32_509, v672, c1_i32_510⟩
def k0_off13 (d0 : Dev nD) (k0_t1 : Fin k0_t1_loop.trips) : Fin 3 → Nat :=
  let c0_893 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_500 : BitVec 32 := 3#32
  let v659 : BitVec 32 := Scalar.addi v2 c3_i32_500
  let c8_i32_501 : BitVec 32 := 8#32
  let c0_i32_502 : BitVec 32 := 0#32
  let v660 : BitVec 1 := Scalar.cmpi .eq c8_i32_501 c0_i32_502
  let c1_i32_503 : BitVec 32 := 1#32
  let v661 : BitVec 32 := Scalar.select v660 c1_i32_503 c8_i32_501
  let v662 : BitVec 32 := Scalar.remsi v659 v661
  let c0_i32_505 : BitVec 32 := 0#32
  let v664 : BitVec 1 := Scalar.cmpi .slt v662 c0_i32_505
  let c0_i32_506 : BitVec 32 := 0#32
  let v665 : BitVec 1 := Scalar.cmpi .slt v661 c0_i32_506
  let v666 : BitVec 1 := Scalar.xori v664 v665
  let c0_i32_504 : BitVec 32 := 0#32
  let v663 : BitVec 1 := Scalar.cmpi .ne v662 c0_i32_504
  let v667 : BitVec 1 := Scalar.andi v666 v663
  let v668 : BitVec 32 := Scalar.addi v662 v661
  let v669 : BitVec 32 := Scalar.select v667 v668 v662
  let c128_i32_507 : BitVec 32 := 128#32
  let v670 : BitVec 32 := Scalar.muli v669 c128_i32_507
  let v978 : Index := Scalar.indexCast v670
  let c0_i32_509 : BitVec 32 := 0#32
  let c1_i32_510 : BitVec 32 := 1#32
  let arg26 : BitVec 32 := Scf.iv c0_i32_509 c1_i32_510 k0_t1
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![0, v978.toNat, v979.toNat]
def k0_off14 (k0_t1 : Fin k0_t1_loop.trips) : Fin 3 → Nat :=
  let c0_894 : Index := 0#32
  let c0_895 : Index := 0#32
  let c0_i32_509 : BitVec 32 := 0#32
  let c1_i32_510 : BitVec 32 := 1#32
  let arg26 : BitVec 32 := Scf.iv c0_i32_509 c1_i32_510 k0_t1
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![0, 0, v982.toNat]
def k0_off15 (k0_t1 : Fin k0_t1_loop.trips) : Fin 2 → Nat :=
  let c0_i32_509 : BitVec 32 := 0#32
  let c1_i32_510 : BitVec 32 := 1#32
  let arg26 : BitVec 32 := Scf.iv c0_i32_509 c1_i32_510 k0_t1
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
@[reducible] def k0_t2_loop : Scf.Loop 32 :=
  let c0_i32_516 : BitVec 32 := 0#32
  let c4_i32_517 : BitVec 32 := 4#32
  let v679 : BitVec 32 := Scalar.addi c0_i32_516 c4_i32_517
  let c1_i32_518 : BitVec 32 := 1#32
  ⟨c0_i32_516, v679, c1_i32_518⟩
def k0_off16 (d0 : Dev nD) (k0_t2 : Fin k0_t2_loop.trips) : Fin 3 → Nat :=
  let c1_893 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_500 : BitVec 32 := 3#32
  let v659 : BitVec 32 := Scalar.addi v2 c3_i32_500
  let c8_i32_501 : BitVec 32 := 8#32
  let c0_i32_502 : BitVec 32 := 0#32
  let v660 : BitVec 1 := Scalar.cmpi .eq c8_i32_501 c0_i32_502
  let c1_i32_503 : BitVec 32 := 1#32
  let v661 : BitVec 32 := Scalar.select v660 c1_i32_503 c8_i32_501
  let v662 : BitVec 32 := Scalar.remsi v659 v661
  let c0_i32_505 : BitVec 32 := 0#32
  let v664 : BitVec 1 := Scalar.cmpi .slt v662 c0_i32_505
  let c0_i32_506 : BitVec 32 := 0#32
  let v665 : BitVec 1 := Scalar.cmpi .slt v661 c0_i32_506
  let v666 : BitVec 1 := Scalar.xori v664 v665
  let c0_i32_504 : BitVec 32 := 0#32
  let v663 : BitVec 1 := Scalar.cmpi .ne v662 c0_i32_504
  let v667 : BitVec 1 := Scalar.andi v666 v663
  let v668 : BitVec 32 := Scalar.addi v662 v661
  let v669 : BitVec 32 := Scalar.select v667 v668 v662
  let c128_i32_507 : BitVec 32 := 128#32
  let v670 : BitVec 32 := Scalar.muli v669 c128_i32_507
  let v978 : Index := Scalar.indexCast v670
  let c0_i32_516 : BitVec 32 := 0#32
  let c1_i32_518 : BitVec 32 := 1#32
  let arg26 : BitVec 32 := Scf.iv c0_i32_516 c1_i32_518 k0_t2
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![1, v978.toNat, v979.toNat]
def k0_off17 (k0_t2 : Fin k0_t2_loop.trips) : Fin 3 → Nat :=
  let c1_894 : Index := 1#32
  let c0_895 : Index := 0#32
  let c0_i32_516 : BitVec 32 := 0#32
  let c1_i32_518 : BitVec 32 := 1#32
  let arg26 : BitVec 32 := Scf.iv c0_i32_516 c1_i32_518 k0_t2
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![1, 0, v982.toNat]
def k0_off18 (k0_t2 : Fin k0_t2_loop.trips) : Fin 2 → Nat :=
  let c0_i32_516 : BitVec 32 := 0#32
  let c1_i32_518 : BitVec 32 := 1#32
  let arg26 : BitVec 32 := Scf.iv c0_i32_516 c1_i32_518 k0_t2
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
def k0_dev10 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_526 : BitVec 32 := 1#32
  let v685 : BitVec 32 := Scalar.muli v24 c1_i32_526
  let v686 : BitVec 32 := Scalar.addi c0_i32_527 v685
  v686.toNat
def k0_dev11 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_537 : BitVec 32 := 1#32
  let v694 : BitVec 32 := Scalar.muli v13 c1_i32_537
  let v695 : BitVec 32 := Scalar.addi c0_i32_538 v694
  v695.toNat
@[reducible] def k0_t3_loop : Scf.Loop 32 :=
  let c0_i32_554 : BitVec 32 := 0#32
  let c4_i32_555 : BitVec 32 := 4#32
  let v716 : BitVec 32 := Scalar.addi c0_i32_554 c4_i32_555
  let c1_i32_556 : BitVec 32 := 1#32
  ⟨c0_i32_554, v716, c1_i32_556⟩
def k0_off19 (d0 : Dev nD) (k0_t3 : Fin k0_t3_loop.trips) : Fin 3 → Nat :=
  let c0_893 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_545 : BitVec 32 := 1#32
  let v703 : BitVec 32 := Scalar.addi v2 c1_i32_545
  let c8_i32_546 : BitVec 32 := 8#32
  let c0_i32_547 : BitVec 32 := 0#32
  let v704 : BitVec 1 := Scalar.cmpi .eq c8_i32_546 c0_i32_547
  let c1_i32_548 : BitVec 32 := 1#32
  let v705 : BitVec 32 := Scalar.select v704 c1_i32_548 c8_i32_546
  let v706 : BitVec 32 := Scalar.remsi v703 v705
  let c0_i32_550 : BitVec 32 := 0#32
  let v708 : BitVec 1 := Scalar.cmpi .slt v706 c0_i32_550
  let c0_i32_551 : BitVec 32 := 0#32
  let v709 : BitVec 1 := Scalar.cmpi .slt v705 c0_i32_551
  let v710 : BitVec 1 := Scalar.xori v708 v709
  let c0_i32_549 : BitVec 32 := 0#32
  let v707 : BitVec 1 := Scalar.cmpi .ne v706 c0_i32_549
  let v711 : BitVec 1 := Scalar.andi v710 v707
  let v712 : BitVec 32 := Scalar.addi v706 v705
  let v713 : BitVec 32 := Scalar.select v711 v712 v706
  let c128_i32_552 : BitVec 32 := 128#32
  let v714 : BitVec 32 := Scalar.muli v713 c128_i32_552
  let v978 : Index := Scalar.indexCast v714
  let c0_i32_554 : BitVec 32 := 0#32
  let c1_i32_556 : BitVec 32 := 1#32
  let arg26 : BitVec 32 := Scf.iv c0_i32_554 c1_i32_556 k0_t3
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![0, v978.toNat, v979.toNat]
def k0_off20 (k0_t3 : Fin k0_t3_loop.trips) : Fin 3 → Nat :=
  let c0_894 : Index := 0#32
  let c0_895 : Index := 0#32
  let c0_i32_554 : BitVec 32 := 0#32
  let c1_i32_556 : BitVec 32 := 1#32
  let arg26 : BitVec 32 := Scf.iv c0_i32_554 c1_i32_556 k0_t3
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![0, 0, v982.toNat]
def k0_off21 (k0_t3 : Fin k0_t3_loop.trips) : Fin 2 → Nat :=
  let c0_i32_554 : BitVec 32 := 0#32
  let c1_i32_556 : BitVec 32 := 1#32
  let arg26 : BitVec 32 := Scf.iv c0_i32_554 c1_i32_556 k0_t3
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
@[reducible] def k0_t4_loop : Scf.Loop 32 :=
  let c0_i32_562 : BitVec 32 := 0#32
  let c4_i32_563 : BitVec 32 := 4#32
  let v723 : BitVec 32 := Scalar.addi c0_i32_562 c4_i32_563
  let c1_i32_564 : BitVec 32 := 1#32
  ⟨c0_i32_562, v723, c1_i32_564⟩
def k0_off22 (d0 : Dev nD) (k0_t4 : Fin k0_t4_loop.trips) : Fin 3 → Nat :=
  let c1_893 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_545 : BitVec 32 := 1#32
  let v703 : BitVec 32 := Scalar.addi v2 c1_i32_545
  let c8_i32_546 : BitVec 32 := 8#32
  let c0_i32_547 : BitVec 32 := 0#32
  let v704 : BitVec 1 := Scalar.cmpi .eq c8_i32_546 c0_i32_547
  let c1_i32_548 : BitVec 32 := 1#32
  let v705 : BitVec 32 := Scalar.select v704 c1_i32_548 c8_i32_546
  let v706 : BitVec 32 := Scalar.remsi v703 v705
  let c0_i32_550 : BitVec 32 := 0#32
  let v708 : BitVec 1 := Scalar.cmpi .slt v706 c0_i32_550
  let c0_i32_551 : BitVec 32 := 0#32
  let v709 : BitVec 1 := Scalar.cmpi .slt v705 c0_i32_551
  let v710 : BitVec 1 := Scalar.xori v708 v709
  let c0_i32_549 : BitVec 32 := 0#32
  let v707 : BitVec 1 := Scalar.cmpi .ne v706 c0_i32_549
  let v711 : BitVec 1 := Scalar.andi v710 v707
  let v712 : BitVec 32 := Scalar.addi v706 v705
  let v713 : BitVec 32 := Scalar.select v711 v712 v706
  let c128_i32_552 : BitVec 32 := 128#32
  let v714 : BitVec 32 := Scalar.muli v713 c128_i32_552
  let v978 : Index := Scalar.indexCast v714
  let c0_i32_562 : BitVec 32 := 0#32
  let c1_i32_564 : BitVec 32 := 1#32
  let arg26 : BitVec 32 := Scf.iv c0_i32_562 c1_i32_564 k0_t4
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![1, v978.toNat, v979.toNat]
def k0_off23 (k0_t4 : Fin k0_t4_loop.trips) : Fin 3 → Nat :=
  let c1_894 : Index := 1#32
  let c0_895 : Index := 0#32
  let c0_i32_562 : BitVec 32 := 0#32
  let c1_i32_564 : BitVec 32 := 1#32
  let arg26 : BitVec 32 := Scf.iv c0_i32_562 c1_i32_564 k0_t4
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![1, 0, v982.toNat]
def k0_off24 (k0_t4 : Fin k0_t4_loop.trips) : Fin 2 → Nat :=
  let c0_i32_562 : BitVec 32 := 0#32
  let c1_i32_564 : BitVec 32 := 1#32
  let arg26 : BitVec 32 := Scf.iv c0_i32_562 c1_i32_564 k0_t4
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
def k0_dev12 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_594 : BitVec 32 := 1#32
  let v746 : BitVec 32 := Scalar.muli v24 c1_i32_594
  let v747 : BitVec 32 := Scalar.addi c0_i32_595 v746
  v747.toNat
@[reducible] def k0_t5_loop : Scf.Loop 32 :=
  let c0_i32_631 : BitVec 32 := 0#32
  let c4_i32_632 : BitVec 32 := 4#32
  let v779 : BitVec 32 := Scalar.addi c0_i32_631 c4_i32_632
  let c1_i32_633 : BitVec 32 := 1#32
  ⟨c0_i32_631, v779, c1_i32_633⟩
def k0_off25 (d0 : Dev nD) (k0_t5 : Fin k0_t5_loop.trips) : Fin 3 → Nat :=
  let c0_893 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_622 : BitVec 32 := 3#32
  let v766 : BitVec 32 := Scalar.subi v2 c3_i32_622
  let c8_i32_623 : BitVec 32 := 8#32
  let c0_i32_624 : BitVec 32 := 0#32
  let v767 : BitVec 1 := Scalar.cmpi .eq c8_i32_623 c0_i32_624
  let c1_i32_625 : BitVec 32 := 1#32
  let v768 : BitVec 32 := Scalar.select v767 c1_i32_625 c8_i32_623
  let v769 : BitVec 32 := Scalar.remsi v766 v768
  let c0_i32_627 : BitVec 32 := 0#32
  let v771 : BitVec 1 := Scalar.cmpi .slt v769 c0_i32_627
  let c0_i32_628 : BitVec 32 := 0#32
  let v772 : BitVec 1 := Scalar.cmpi .slt v768 c0_i32_628
  let v773 : BitVec 1 := Scalar.xori v771 v772
  let c0_i32_626 : BitVec 32 := 0#32
  let v770 : BitVec 1 := Scalar.cmpi .ne v769 c0_i32_626
  let v774 : BitVec 1 := Scalar.andi v773 v770
  let v775 : BitVec 32 := Scalar.addi v769 v768
  let v776 : BitVec 32 := Scalar.select v774 v775 v769
  let c128_i32_629 : BitVec 32 := 128#32
  let v777 : BitVec 32 := Scalar.muli v776 c128_i32_629
  let v978 : Index := Scalar.indexCast v777
  let c0_i32_631 : BitVec 32 := 0#32
  let c1_i32_633 : BitVec 32 := 1#32
  let arg26 : BitVec 32 := Scf.iv c0_i32_631 c1_i32_633 k0_t5
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![0, v978.toNat, v979.toNat]
def k0_off26 (k0_t5 : Fin k0_t5_loop.trips) : Fin 3 → Nat :=
  let c0_894 : Index := 0#32
  let c0_895 : Index := 0#32
  let c0_i32_631 : BitVec 32 := 0#32
  let c1_i32_633 : BitVec 32 := 1#32
  let arg26 : BitVec 32 := Scf.iv c0_i32_631 c1_i32_633 k0_t5
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![0, 0, v982.toNat]
def k0_off27 (k0_t5 : Fin k0_t5_loop.trips) : Fin 2 → Nat :=
  let c0_i32_631 : BitVec 32 := 0#32
  let c1_i32_633 : BitVec 32 := 1#32
  let arg26 : BitVec 32 := Scf.iv c0_i32_631 c1_i32_633 k0_t5
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
@[reducible] def k0_t6_loop : Scf.Loop 32 :=
  let c0_i32_639 : BitVec 32 := 0#32
  let c4_i32_640 : BitVec 32 := 4#32
  let v786 : BitVec 32 := Scalar.addi c0_i32_639 c4_i32_640
  let c1_i32_641 : BitVec 32 := 1#32
  ⟨c0_i32_639, v786, c1_i32_641⟩
def k0_off28 (d0 : Dev nD) (k0_t6 : Fin k0_t6_loop.trips) : Fin 3 → Nat :=
  let c1_893 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_622 : BitVec 32 := 3#32
  let v766 : BitVec 32 := Scalar.subi v2 c3_i32_622
  let c8_i32_623 : BitVec 32 := 8#32
  let c0_i32_624 : BitVec 32 := 0#32
  let v767 : BitVec 1 := Scalar.cmpi .eq c8_i32_623 c0_i32_624
  let c1_i32_625 : BitVec 32 := 1#32
  let v768 : BitVec 32 := Scalar.select v767 c1_i32_625 c8_i32_623
  let v769 : BitVec 32 := Scalar.remsi v766 v768
  let c0_i32_627 : BitVec 32 := 0#32
  let v771 : BitVec 1 := Scalar.cmpi .slt v769 c0_i32_627
  let c0_i32_628 : BitVec 32 := 0#32
  let v772 : BitVec 1 := Scalar.cmpi .slt v768 c0_i32_628
  let v773 : BitVec 1 := Scalar.xori v771 v772
  let c0_i32_626 : BitVec 32 := 0#32
  let v770 : BitVec 1 := Scalar.cmpi .ne v769 c0_i32_626
  let v774 : BitVec 1 := Scalar.andi v773 v770
  let v775 : BitVec 32 := Scalar.addi v769 v768
  let v776 : BitVec 32 := Scalar.select v774 v775 v769
  let c128_i32_629 : BitVec 32 := 128#32
  let v777 : BitVec 32 := Scalar.muli v776 c128_i32_629
  let v978 : Index := Scalar.indexCast v777
  let c0_i32_639 : BitVec 32 := 0#32
  let c1_i32_641 : BitVec 32 := 1#32
  let arg26 : BitVec 32 := Scf.iv c0_i32_639 c1_i32_641 k0_t6
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![1, v978.toNat, v979.toNat]
def k0_off29 (k0_t6 : Fin k0_t6_loop.trips) : Fin 3 → Nat :=
  let c1_894 : Index := 1#32
  let c0_895 : Index := 0#32
  let c0_i32_639 : BitVec 32 := 0#32
  let c1_i32_641 : BitVec 32 := 1#32
  let arg26 : BitVec 32 := Scf.iv c0_i32_639 c1_i32_641 k0_t6
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![1, 0, v982.toNat]
def k0_off30 (k0_t6 : Fin k0_t6_loop.trips) : Fin 2 → Nat :=
  let c0_i32_639 : BitVec 32 := 0#32
  let c1_i32_641 : BitVec 32 := 1#32
  let arg26 : BitVec 32 := Scf.iv c0_i32_639 c1_i32_641 k0_t6
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
def k0_dev13 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_672 : BitVec 32 := 1#32
  let v809 : BitVec 32 := Scalar.muli v13 c1_i32_672
  let v810 : BitVec 32 := Scalar.addi c0_i32_673 v809
  v810.toNat
def k0_dev14 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_706 : BitVec 32 := 1#32
  let v836 : BitVec 32 := Scalar.muli v24 c1_i32_706
  let v837 : BitVec 32 := Scalar.addi c0_i32_707 v836
  v837.toNat
def k0_dev15 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_740 : BitVec 32 := 1#32
  let v863 : BitVec 32 := Scalar.muli v13 c1_i32_740
  let v864 : BitVec 32 := Scalar.addi c0_i32_741 v863
  v864.toNat
@[reducible] def k0_t7_loop : Scf.Loop 32 :=
  let c0_i32_757 : BitVec 32 := 0#32
  let c4_i32_758 : BitVec 32 := 4#32
  let v886 : BitVec 32 := Scalar.addi c0_i32_757 c4_i32_758
  let c1_i32_759 : BitVec 32 := 1#32
  ⟨c0_i32_757, v886, c1_i32_759⟩
def k0_off31 (d0 : Dev nD) (k0_t7 : Fin k0_t7_loop.trips) : Fin 3 → Nat :=
  let c0_893 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_748 : BitVec 32 := 1#32
  let v873 : BitVec 32 := Scalar.subi v2 c1_i32_748
  let c8_i32_749 : BitVec 32 := 8#32
  let c0_i32_750 : BitVec 32 := 0#32
  let v874 : BitVec 1 := Scalar.cmpi .eq c8_i32_749 c0_i32_750
  let c1_i32_751 : BitVec 32 := 1#32
  let v875 : BitVec 32 := Scalar.select v874 c1_i32_751 c8_i32_749
  let v876 : BitVec 32 := Scalar.remsi v873 v875
  let c0_i32_753 : BitVec 32 := 0#32
  let v878 : BitVec 1 := Scalar.cmpi .slt v876 c0_i32_753
  let c0_i32_754 : BitVec 32 := 0#32
  let v879 : BitVec 1 := Scalar.cmpi .slt v875 c0_i32_754
  let v880 : BitVec 1 := Scalar.xori v878 v879
  let c0_i32_752 : BitVec 32 := 0#32
  let v877 : BitVec 1 := Scalar.cmpi .ne v876 c0_i32_752
  let v881 : BitVec 1 := Scalar.andi v880 v877
  let v882 : BitVec 32 := Scalar.addi v876 v875
  let v883 : BitVec 32 := Scalar.select v881 v882 v876
  let c128_i32_755 : BitVec 32 := 128#32
  let v884 : BitVec 32 := Scalar.muli v883 c128_i32_755
  let v978 : Index := Scalar.indexCast v884
  let c0_i32_757 : BitVec 32 := 0#32
  let c1_i32_759 : BitVec 32 := 1#32
  let arg26 : BitVec 32 := Scf.iv c0_i32_757 c1_i32_759 k0_t7
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![0, v978.toNat, v979.toNat]
def k0_off32 (k0_t7 : Fin k0_t7_loop.trips) : Fin 3 → Nat :=
  let c0_894 : Index := 0#32
  let c0_895 : Index := 0#32
  let c0_i32_757 : BitVec 32 := 0#32
  let c1_i32_759 : BitVec 32 := 1#32
  let arg26 : BitVec 32 := Scf.iv c0_i32_757 c1_i32_759 k0_t7
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![0, 0, v982.toNat]
def k0_off33 (k0_t7 : Fin k0_t7_loop.trips) : Fin 2 → Nat :=
  let c0_i32_757 : BitVec 32 := 0#32
  let c1_i32_759 : BitVec 32 := 1#32
  let arg26 : BitVec 32 := Scf.iv c0_i32_757 c1_i32_759 k0_t7
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
@[reducible] def k0_t8_loop : Scf.Loop 32 :=
  let c0_i32_765 : BitVec 32 := 0#32
  let c4_i32_766 : BitVec 32 := 4#32
  let v893 : BitVec 32 := Scalar.addi c0_i32_765 c4_i32_766
  let c1_i32_767 : BitVec 32 := 1#32
  ⟨c0_i32_765, v893, c1_i32_767⟩
def k0_off34 (d0 : Dev nD) (k0_t8 : Fin k0_t8_loop.trips) : Fin 3 → Nat :=
  let c1_893 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_748 : BitVec 32 := 1#32
  let v873 : BitVec 32 := Scalar.subi v2 c1_i32_748
  let c8_i32_749 : BitVec 32 := 8#32
  let c0_i32_750 : BitVec 32 := 0#32
  let v874 : BitVec 1 := Scalar.cmpi .eq c8_i32_749 c0_i32_750
  let c1_i32_751 : BitVec 32 := 1#32
  let v875 : BitVec 32 := Scalar.select v874 c1_i32_751 c8_i32_749
  let v876 : BitVec 32 := Scalar.remsi v873 v875
  let c0_i32_753 : BitVec 32 := 0#32
  let v878 : BitVec 1 := Scalar.cmpi .slt v876 c0_i32_753
  let c0_i32_754 : BitVec 32 := 0#32
  let v879 : BitVec 1 := Scalar.cmpi .slt v875 c0_i32_754
  let v880 : BitVec 1 := Scalar.xori v878 v879
  let c0_i32_752 : BitVec 32 := 0#32
  let v877 : BitVec 1 := Scalar.cmpi .ne v876 c0_i32_752
  let v881 : BitVec 1 := Scalar.andi v880 v877
  let v882 : BitVec 32 := Scalar.addi v876 v875
  let v883 : BitVec 32 := Scalar.select v881 v882 v876
  let c128_i32_755 : BitVec 32 := 128#32
  let v884 : BitVec 32 := Scalar.muli v883 c128_i32_755
  let v978 : Index := Scalar.indexCast v884
  let c0_i32_765 : BitVec 32 := 0#32
  let c1_i32_767 : BitVec 32 := 1#32
  let arg26 : BitVec 32 := Scf.iv c0_i32_765 c1_i32_767 k0_t8
  let c2_i32_892 : BitVec 32 := 2#32
  let v976 : BitVec 32 := Scalar.muli arg26 c2_i32_892
  let c64_i32 : BitVec 32 := 64#32
  let v977 : BitVec 32 := Scalar.muli v976 c64_i32
  let v979 : Index := Scalar.indexCast v977
  ![1, v978.toNat, v979.toNat]
def k0_off35 (k0_t8 : Fin k0_t8_loop.trips) : Fin 3 → Nat :=
  let c1_894 : Index := 1#32
  let c0_895 : Index := 0#32
  let c0_i32_765 : BitVec 32 := 0#32
  let c1_i32_767 : BitVec 32 := 1#32
  let arg26 : BitVec 32 := Scf.iv c0_i32_765 c1_i32_767 k0_t8
  let c2_i32_892 : BitVec 32 := 2#32
  let v976 : BitVec 32 := Scalar.muli arg26 c2_i32_892
  let c64_i32 : BitVec 32 := 64#32
  let v977 : BitVec 32 := Scalar.muli v976 c64_i32
  let v982 : Index := Scalar.indexCast v977
  ![1, 0, v982.toNat]
def k0_off36 (k0_t8 : Fin k0_t8_loop.trips) : Fin 2 → Nat :=
  let c0_i32_765 : BitVec 32 := 0#32
  let c1_i32_767 : BitVec 32 := 1#32
  let arg26 : BitVec 32 := Scf.iv c0_i32_765 c1_i32_767 k0_t8
  let c2_i32_892 : BitVec 32 := 2#32
  let v976 : BitVec 32 := Scalar.muli arg26 c2_i32_892
  let c64_i32 : BitVec 32 := 64#32
  let v977 : BitVec 32 := Scalar.muli v976 c64_i32
  let v988 : Index := Scalar.indexCast v977
  let c0_898 : Index := 0#32
  ![v988.toNat, 0]
def k0_dev16 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_798 : BitVec 32 := 1#32
  let v916 : BitVec 32 := Scalar.muli v13 c1_i32_798
  let v917 : BitVec 32 := Scalar.addi c0_i32_799 v916
  v917.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x4096 : Shape := ⟨2, ![512, 4096]⟩
abbrev S4096x512 : Shape := ⟨2, ![4096, 512]⟩
abbrev S2x1024x4096 : Shape := ⟨3, ![2, 1024, 4096]⟩
abbrev S2x1024x64x64 : Shape := ⟨4, ![2, 1024, 64, 64]⟩
abbrev S_ : Shape := ⟨0, ![]⟩
abbrev S2x64x1024x1 : Shape := ⟨4, ![2, 64, 1024, 1]⟩
abbrev S2x64x1024x1024 : Shape := ⟨4, ![2, 64, 1024, 1024]⟩
abbrev S2x64x1024 : Shape := ⟨3, ![2, 64, 1024]⟩
abbrev S2x1024x64x1 : Shape := ⟨4, ![2, 1024, 64, 1]⟩
abbrev S2x64x64x1024 : Shape := ⟨4, ![2, 64, 64, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4096x512, .f32⟩
  | .hbm, ⟨5, _⟩ => ⟨S2x1024x4096, .f32⟩
  | .hbm, ⟨6, _⟩ => ⟨S2x1024x64x64, .f32⟩
  | .hbm, ⟨7, _⟩ => ⟨S2x1024x4096, .f32⟩
  | .hbm, ⟨8, _⟩ => ⟨S2x1024x64x64, .f32⟩
  | .hbm, ⟨9, _⟩ => ⟨S2x1024x4096, .f32⟩
  | .hbm, ⟨10, _⟩ => ⟨S2x1024x64x64, .f32⟩
  | .hbm, ⟨11, _⟩ => ⟨S_, .f32⟩
  | .hbm, ⟨12, _⟩ => ⟨S2x1024x64x64, .f32⟩
  | .hbm, ⟨13, _⟩ => ⟨S_, .f32⟩
  | .hbm, ⟨14, _⟩ => ⟨S2x64x1024x1, .f32⟩
  | .hbm, ⟨15, _⟩ => ⟨S_, .f32⟩
  | .hbm, ⟨16, _⟩ => ⟨S2x64x1024x1, .f32⟩
  | .hbm, ⟨17, _⟩ => ⟨S2x64x1024x1024, .f32⟩
  | .hbm, ⟨18, _⟩ => ⟨S_, .f32⟩
  | .hbm, ⟨19, _⟩ => ⟨S2x64x1024x1024, .f32⟩
  | .hbm, ⟨20, _⟩ => ⟨S2x64x1024x1024, .f32⟩
  | .hbm, ⟨21, _⟩ => ⟨S_, .f32⟩
  | .hbm, ⟨22, _⟩ => ⟨S2x64x1024, .f32⟩
  | .hbm, ⟨23, _⟩ => ⟨S2x64x1024x1, .f32⟩
  | .hbm, ⟨24, _⟩ => ⟨S2x64x1024x1, .f32⟩
  | .hbm, ⟨25, _⟩ => ⟨S2x64x1024x1, .f32⟩
  | .hbm, ⟨26, _⟩ => ⟨S2x64x1024x1, .f32⟩
  | .hbm, ⟨27, _⟩ => ⟨S2x64x1024x1024, .f32⟩
  | .hbm, ⟨28, _⟩ => ⟨S2x64x1024x1024, .f32⟩
  | .hbm, ⟨29, _⟩ => ⟨S2x64x1024x1024, .f32⟩
  | .hbm, ⟨30, _⟩ => ⟨S2x64x1024x1, .f32⟩
  | .hbm, ⟨31, _⟩ => ⟨S_, .f32⟩
  | .hbm, ⟨32, _⟩ => ⟨S2x64x1024, .f32⟩
  | .hbm, ⟨33, _⟩ => ⟨S2x64x1024x1, .f32⟩
  | .hbm, ⟨34, _⟩ => ⟨S2x64x1024x1, .f32⟩
  | .hbm, ⟨35, _⟩ => ⟨S2x1024x64x1, .f32⟩
  | .hbm, ⟨36, _⟩ => ⟨S2x1024x64x64, .f32⟩
  | .hbm, ⟨37, _⟩ => ⟨S2x1024x64x64, .f32⟩
  | .hbm, ⟨38, _⟩ => ⟨S2x64x64x1024, .f32⟩
  | .hbm, ⟨39, _⟩ => ⟨S2x1024x64x64, .f32⟩
  | .hbm, ⟨40, _⟩ => ⟨S2x1024x64x64, .f32⟩
  | .hbm, ⟨41, _⟩ => ⟨S2x1024x64x1, .f32⟩
  | .hbm, ⟨42, _⟩ => ⟨S2x1024x64x64, .f32⟩
  | .hbm, ⟨43, _⟩ => ⟨S2x1024x64x64, .f32⟩
  | .hbm, ⟨44, _⟩ => ⟨S2x1024x4096, .f32⟩
  | .hbm, ⟨45, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! # The kernel's body, restated in structured form

The printed body is cut by position into forty-odd parts. Here the same sequence of operations is said once more in the
terms it was written in: transfers numbered in the order they are started, one sub-program per projected row block, one
per attention chunk. `tail_eq` is the equation between the two, checked device by device. -/

@[expose] public section

noncomputable section

namespace Cert.KernelIdeal.Gen.Mine

open Cert.KernelIdeal Cert.KernelIdeal.Gen
open Idealize.ShloMosaic Idealize.ShloMosaic.TcCoe Idealize.SL.Sem

variable {F : FTy → Type} [FloatOps F]

/-- The programs of the kernel's core. -/
local notation "TP" => Prog (TpuEff nD τ sig (Elt F) Λ₀ Proc.tc)

/-! ## The scratch buffers -/

abbrev x16 : Memref sig .tc .vmem S2x128x512 .bf16 := Memref.whole cc0_scratch0
abbrev rbuf : Memref sig .tc .vmem S4x2x128x512 .bf16 := Memref.whole cc0_scratch1
abbrev lbuf : Memref sig .tc .vmem S3x2x128x512 .bf16 := Memref.whole cc0_scratch2
abbrev qbuf : Memref sig .tc .vmem S2x1152x512 .bf16 := Memref.whole cc0_scratch3
abbrev kbuf : Memref sig .tc .vmem S2x1024x512 .bf16 := Memref.whole cc0_scratch4
abbrev vbuf : Memref sig .tc .vmem S2x1024x512 .bf16 := Memref.whole cc0_scratch5
abbrev pcA : Memref sig .tc .vmem S2x256x512 .bf16 := Memref.whole cc0_scratch6
abbrev pcB : Memref sig .tc .vmem S2x256x512 .bf16 := Memref.whole cc0_scratch7
abbrev rsR : Memref sig .tc .vmem S3x2x128x512 .bf16 := Memref.whole cc0_scratch8
abbrev rsL : Memref sig .tc .vmem S4x2x128x512 .bf16 := Memref.whole cc0_scratch9
abbrev wqkv : Memref sig .tc .vmem S512x1536 .bf16 := Memref.whole cc0_scratch10
abbrev wo16 : Memref sig .tc .vmem S512x512 .bf16 := Memref.whole cc0_scratch11

/-! ## Slots of the ring buffers -/

theorem inb4 (h : Fin 4) : ∀ a, (![h.val, 0, 0, 0] : Fin 4 → Nat) a + S1x2x128x512.size a ≤ S4x2x128x512.size a := by
  revert h; decide
theorem inb3 (h : Fin 3) : ∀ a, (![h.val, 0, 0, 0] : Fin 4 → Nat) a + S1x2x128x512.size a ≤ S3x2x128x512.size a := by
  revert h; decide
/-- The rectangle of slot `h` of a buffer of four, -/
abbrev r4 (h : Fin 4) : Rect S4x2x128x512 := Rect.unit (s := S4x2x128x512) ![h.val, 0, 0, 0] S1x2x128x512.size (inb4 h)
/-- and of three. -/
abbrev r3 (h : Fin 3) : Rect S3x2x128x512 := Rect.unit (s := S3x2x128x512) ![h.val, 0, 0, 0] S1x2x128x512.size (inb3 h)

/-- Slot `h` of a buffer of four as a block, -/
abbrev sl4 (b : Memref sig .tc .vmem S4x2x128x512 .bf16) (h : Fin 4) : Memref sig .tc .vmem S2x128x512 .bf16 :=
  (b.slice (r4 h) (fun _ => rfl) : Memref sig .tc .vmem S1x2x128x512 .bf16).squeeze S2x128x512 squeezes_S1x2x128x512_S2x128x512
/-- and of a buffer of three. -/
abbrev sl3 (b : Memref sig .tc .vmem S3x2x128x512 .bf16) (h : Fin 3) : Memref sig .tc .vmem S2x128x512 .bf16 :=
  (b.slice (r3 h) (fun _ => rfl) : Memref sig .tc .vmem S1x2x128x512 .bf16).squeeze S2x128x512 squeezes_S1x2x128x512_S2x128x512
/-- The lower rows of a partial product's buffer, -/
abbrev rlo : Rect S2x256x512 := Rect.unit (s := S2x256x512) ![0, 0, 0] S2x128x512.size inb_S2x256x512_S2x128x512_0_0_0
/-- and its upper rows. -/
abbrev rhi : Rect S2x256x512 := Rect.unit (s := S2x256x512) ![0, 128, 0] S2x128x512.size inb_S2x256x512_S2x128x512_0_128_0
abbrev pcLo : Memref sig .tc .vmem S2x128x512 .bf16 := pcA.slice rlo (fun _ => rfl)
abbrev pcHi : Memref sig .tc .vmem S2x128x512 .bf16 := pcA.slice rhi (fun _ => rfl)

theorem words4 (h : Fin 4) : (r4 h).WholeWords (EltTy.packing .bf16) := by revert h; decide +kernel
theorem words3 (h : Fin 3) : (r3 h).WholeWords (EltTy.packing .bf16) := by revert h; decide +kernel
theorem packed4 (h : Fin 4) : (r4 h).PackedRows (EltTy.packing .bf16) := by revert h; decide +kernel
theorem packed3 (h : Fin 3) : (r3 h).PackedRows (EltTy.packing .bf16) := by revert h; decide +kernel

/-! ## The fourteen transfers, in the order they are started -/

/-- What transfer `j` reads. -/
def srcM : Fin 14 → Memref sig .tc .vmem S2x128x512 .bf16
  | 0 => x16 | 1 => x16 | 2 => sl4 rbuf 0 | 3 => sl3 lbuf 0 | 4 => sl4 rbuf 1 | 5 => sl3 lbuf 1 | 6 => sl4 rbuf 2
  | 7 => pcLo | 8 => pcHi | 9 => sl3 rsR 0 | 10 => sl4 rsL 0 | 11 => sl3 rsR 1 | 12 => sl4 rsL 1 | 13 => sl4 rsL 2

/-- What transfer `j` writes, on the device it goes to. -/
def dstM : Fin 14 → Memref sig .tc .vmem S2x128x512 .bf16
  | 0 => sl4 rbuf 0 | 1 => sl3 lbuf 0 | 2 => sl4 rbuf 1 | 3 => sl3 lbuf 1 | 4 => sl4 rbuf 2 | 5 => sl3 lbuf 2 | 6 => sl4 rbuf 3
  | 7 => sl3 rsR 0 | 8 => sl4 rsL 0 | 9 => sl3 rsR 1 | 10 => sl4 rsL 1 | 11 => sl3 rsR 2 | 12 => sl4 rsL 2 | 13 => sl4 rsL 3

/-- The operand the wait for transfer `j`'s arrival names as its source: only its shape matters. -/
def wsrc : Fin 14 → Memref sig .tc .vmem S2x128x512 .bf16
  | 0 => x16 | 1 => x16 | 2 => sl4 rbuf 0 | 3 => sl3 lbuf 0 | 4 => sl4 rbuf 1 | 5 => sl3 lbuf 1 | 6 => sl4 rbuf 2
  | _ => pcLo

/-- The operand the wait for transfer `j`'s departure names as its destination: only its shape matters. -/
def wdst : Fin 14 → Memref sig .tc .vmem S2x128x512 .bf16
  | 0 => x16 | 1 => x16 | 2 => sl4 rbuf 0 | 3 => sl3 lbuf 0 | 4 => sl4 rbuf 1 | 5 => sl3 lbuf 1 | 6 => sl4 rbuf 2
  | 8 => pcHi | _ => pcLo

/-- The semaphore of transfer `j`'s departure, -/
def sendSem : Fin 14 → DmaSem sig
  | 0 => 6 | 1 => 14 | 2 => 7 | 3 => 15 | 4 => 8 | 5 => 16 | 6 => 9
  | 7 => 20 | 8 => 26 | 9 => 21 | 10 => 27 | 11 => 22 | 12 => 28 | 13 => 29

/-- and of its arrival. -/
def recvSem : Fin 14 → DmaSem sig
  | 0 => 10 | 1 => 17 | 2 => 11 | 3 => 18 | 4 => 12 | 5 => 19 | 6 => 13
  | 7 => 23 | 8 => 30 | 9 => 24 | 10 => 31 | 11 => 25 | 12 => 32 | 13 => 33

/-- Whether transfer `j` goes to the right neighbour. -/
def toRight : Fin 14 → Bool
  | 0 => true | 1 => false | 2 => true | 3 => false | 4 => true | 5 => false | 6 => true
  | 7 => true | 8 => false | 9 => true | 10 => false | 11 => true | 12 => false | 13 => false

/-- The right neighbour on the ring, -/
def nxt (c : Dev nD) : Dev nD := ⟨(c.val + 1) % 8, Nat.mod_lt _ (by decide)⟩
/-- and the left. -/
def prv (c : Dev nD) : Dev nD := ⟨(c.val + 7) % 8, Nat.mod_lt _ (by decide)⟩

/-- Where device `c`'s transfer `j` goes, -/
def peer (c : Dev nD) (j : Fin 14) : Dev nD := if toRight j then nxt c else prv c
/-- and where the transfer `j` that arrives at `c` comes from. -/
def from_ (c : Dev nD) (j : Fin 14) : Dev nD := if toRight j then prv c else nxt c

theorem we_x16 : x16.view.WordExact := (Memref.isWhole_whole _).wordExact
theorem we4 (b : Memref sig .tc .vmem S4x2x128x512 .bf16) (hb : b.IsWhole) (h : Fin 4) : (sl4 b h).view.WordExact :=
  (View.wordExact_reshape _ _).mpr (hb.wordExact_slice rfl _ (words4 h))
theorem we3 (b : Memref sig .tc .vmem S3x2x128x512 .bf16) (hb : b.IsWhole) (h : Fin 3) : (sl3 b h).view.WordExact :=
  (View.wordExact_reshape _ _).mpr (hb.wordExact_slice rfl _ (words3 h))
theorem we_lo : pcLo.view.WordExact :=
  (Memref.isWhole_whole cc0_scratch6).wordExact_slice rfl _ wordsbf16_S2x256x512_S2x128x512_0_0_0
theorem we_hi : pcHi.view.WordExact :=
  (Memref.isWhole_whole cc0_scratch6).wordExact_slice rfl _ wordsbf16_S2x256x512_S2x128x512_0_128_0

theorem we_src : ∀ j, (srcM j).view.WordExact
  | 0 => we_x16 | 1 => we_x16 | 2 => we4 rbuf (Memref.isWhole_whole _) 0 | 3 => we3 lbuf (Memref.isWhole_whole _) 0
  | 4 => we4 rbuf (Memref.isWhole_whole _) 1 | 5 => we3 lbuf (Memref.isWhole_whole _) 1 | 6 => we4 rbuf (Memref.isWhole_whole _) 2
  | 7 => we_lo | 8 => we_hi | 9 => we3 rsR (Memref.isWhole_whole _) 0 | 10 => we4 rsL (Memref.isWhole_whole _) 0
  | 11 => we3 rsR (Memref.isWhole_whole _) 1 | 12 => we4 rsL (Memref.isWhole_whole _) 1 | 13 => we4 rsL (Memref.isWhole_whole _) 2
theorem we_dst : ∀ j, (dstM j).view.WordExact
  | 0 => we4 rbuf (Memref.isWhole_whole _) 0 | 1 => we3 lbuf (Memref.isWhole_whole _) 0 | 2 => we4 rbuf (Memref.isWhole_whole _) 1
  | 3 => we3 lbuf (Memref.isWhole_whole _) 1 | 4 => we4 rbuf (Memref.isWhole_whole _) 2 | 5 => we3 lbuf (Memref.isWhole_whole _) 2
  | 6 => we4 rbuf (Memref.isWhole_whole _) 3 | 7 => we3 rsR (Memref.isWhole_whole _) 0 | 8 => we4 rsL (Memref.isWhole_whole _) 0
  | 9 => we3 rsR (Memref.isWhole_whole _) 1 | 10 => we4 rsL (Memref.isWhole_whole _) 1 | 11 => we3 rsR (Memref.isWhole_whole _) 2
  | 12 => we4 rsL (Memref.isWhole_whole _) 2 | 13 => we4 rsL (Memref.isWhole_whole _) 3
theorem we_wsrc : ∀ j, (wsrc j).view.WordExact
  | 0 => we_src 0 | 1 => we_src 1 | 2 => we_src 2 | 3 => we_src 3 | 4 => we_src 4 | 5 => we_src 5 | 6 => we_src 6
  | 7 => we_lo | 8 => we_lo | 9 => we_lo | 10 => we_lo | 11 => we_lo | 12 => we_lo | 13 => we_lo
theorem we_wdst : ∀ j, (wdst j).view.WordExact
  | 0 => we_src 0 | 1 => we_src 1 | 2 => we_src 2 | 3 => we_src 3 | 4 => we_src 4 | 5 => we_src 5 | 6 => we_src 6
  | 7 => we_lo | 8 => we_hi | 9 => we_lo | 10 => we_lo | 11 => we_lo | 12 => we_lo | 13 => we_lo

/-- Start transfer `j`. -/
def sendOp (c : Dev nD) (j : Fin 14) : TP PUnit :=
  Prog.lift (.enqueueDma (srcM j) (.remote (Dev.tc (peer c j)) (dstM j) (.dma (sendSem j))) (.dma (recvSem j))
    (we_src j) (we_dst j) ⟨⟨rfl, Or.inl rfl⟩, trivial⟩)

/-- Wait until transfer `j` has arrived here. -/
def waitR (j : Fin 14) : TP PUnit := Prog.lift (.waitDma2 (recvSem j) (wsrc j) (dstM j) (we_wsrc j) (we_dst j))

/-- Wait until this device's transfer `j` has left. -/
def waitS (j : Fin 14) : TP PUnit := Prog.lift (.waitDma2 (sendSem j) (dstM j) (wdst j) (we_dst j) (we_wdst j))

/-! ## Reads and writes of whole slots -/

/-- Read slot `h` of a buffer of four, -/
def ld4 (b : Memref sig .tc .vmem S4x2x128x512 .bf16) (h : Fin 4) : TP (Vec F S1x2x128x512 .bf16) :=
  Prog.lift (.load b (r4 h).toLoadRect (View.loadsAt_vmem h_S1x2x128x512))
/-- of three; -/
def ld3 (b : Memref sig .tc .vmem S3x2x128x512 .bf16) (h : Fin 3) : TP (Vec F S1x2x128x512 .bf16) :=
  Prog.lift (.load b (r3 h).toLoadRect (View.loadsAt_vmem h_S1x2x128x512))
/-- write slot `h` of a buffer of four, -/
def st4 (b : Memref sig .tc .vmem S4x2x128x512 .bf16) (hb : b.IsWhole) (h : Fin 4) (v : FVec F S1x2x128x512 .bf16) : TP PUnit :=
  Prog.lift (.store b (r4 h) v Finset.univ
    (View.stores_vmem h_S1x2x128x512 (hb.storeExact_slice rfl _ (packed4 h)) (fun _ => rfl)) (.inl rfl))
/-- of three. -/
def st3 (b : Memref sig .tc .vmem S3x2x128x512 .bf16) (hb : b.IsWhole) (h : Fin 3) (v : FVec F S1x2x128x512 .bf16) : TP PUnit :=
  Prog.lift (.store b (r3 h) v Finset.univ
    (View.stores_vmem h_S1x2x128x512 (hb.storeExact_slice rfl _ (packed3 h)) (fun _ => rfl)) (.inl rfl))

/-! ## Projections of one row block -/

theorem inbQ (n : Fin 9) (b : Fin 2) :
    ∀ a, (![b.val, 128 * n.val, 0] : Fin 3 → Nat) a + S1x128x512.size a ≤ S2x1152x512.size a := by revert n b; decide
theorem inbK (n : Fin 8) (b : Fin 2) :
    ∀ a, (![b.val, 128 * n.val, 0] : Fin 3 → Nat) a + S1x128x512.size a ≤ S2x1024x512.size a := by revert n b; decide
/-- Rows of block `n`, batch `b` of the buffer of queries (whose ninth block repeats the first), -/
abbrev rQ (n : Fin 9) (b : Fin 2) : Rect S2x1152x512 :=
  Rect.unit (s := S2x1152x512) ![b.val, 128 * n.val, 0] S1x128x512.size (inbQ n b)
/-- and of those of keys and of values. -/
abbrev rK (n : Fin 8) (b : Fin 2) : Rect S2x1024x512 :=
  Rect.unit (s := S2x1024x512) ![b.val, 128 * n.val, 0] S1x128x512.size (inbK n b)
theorem packedQ (n : Fin 9) (b : Fin 2) : (rQ n b).PackedRows (EltTy.packing .bf16) := by revert n b; decide +kernel
theorem packedK (n : Fin 8) (b : Fin 2) : (rK n b).PackedRows (EltTy.packing .bf16) := by revert n b; decide +kernel

/-- Batch `b`'s rows of the projection of block `X` by the packed weights `W`: the queries, -/
def qP (b : Fin 2) (X : FVec F S2x128x512 .bf16) (W : Vec F S512x1536 .bf16) : FVec F S1x128x512 .bf16 :=
  match b with | 0 => k0_pay80 X W | 1 => k0_pay86 (k0_pay78 X W)
/-- the keys, -/
def kP (b : Fin 2) (X : FVec F S2x128x512 .bf16) (W : Vec F S512x1536 .bf16) : FVec F S1x128x512 .bf16 :=
  match b with | 0 => k0_pay81 X W | 1 => k0_pay87 (k0_pay78 X W)
/-- and the values. -/
def vP (b : Fin 2) (X : FVec F S2x128x512 .bf16) (W : Vec F S512x1536 .bf16) : FVec F S1x128x512 .bf16 :=
  match b with | 0 => k0_pay83 (k0_pay82 X W) | 1 => k0_pay88 (k0_pay78 X W)

/-- Replace block `n`, batch `b` of the queries' buffer. -/
def putQ (n : Fin 9) (b : Fin 2) (v : FVec F S1x128x512 .bf16) : TP PUnit := do
  let _ ← Prog.lift (.load qbuf (rQ n b).toLoadRect (View.loadsAt_vmem h_S1x128x512))
  Prog.lift (.store qbuf (rQ n b) v Finset.univ
    (View.stores_vmem h_S1x128x512 ((Memref.isWhole_whole cc0_scratch3).storeExact_slice rfl _ (packedQ n b)) (fun _ => rfl)) (.inl rfl))
/-- Replace block `n`, batch `b` of the keys' buffer. -/
def putK (n : Fin 8) (b : Fin 2) (v : FVec F S1x128x512 .bf16) : TP PUnit := do
  let _ ← Prog.lift (.load kbuf (rK n b).toLoadRect (View.loadsAt_vmem h_S1x128x512))
  Prog.lift (.store kbuf (rK n b) v Finset.univ
    (View.stores_vmem h_S1x128x512 ((Memref.isWhole_whole cc0_scratch4).storeExact_slice rfl _ (packedK n b)) (fun _ => rfl)) (.inl rfl))
/-- Replace block `n`, batch `b` of the values' buffer. -/
def putV (n : Fin 8) (b : Fin 2) (v : FVec F S1x128x512 .bf16) : TP PUnit := do
  let _ ← Prog.lift (.load vbuf (rK n b).toLoadRect (View.loadsAt_vmem h_S1x128x512))
  Prog.lift (.store vbuf (rK n b) v Finset.univ
    (View.stores_vmem h_S1x128x512 ((Memref.isWhole_whole cc0_scratch5).storeExact_slice rfl _ (packedK n b)) (fun _ => rfl)) (.inl rfl))

/-- Batch `b` of block `n`: its queries, keys and values put in their rows (the first block's queries twice). -/
def qkvRow (n : Fin 8) (b : Fin 2) (X : FVec F S2x128x512 .bf16) (W : Vec F S512x1536 .bf16) : TP PUnit := do
  putQ n.castSucc b (qP b X W)
  putK n b (kP b X W)
  putV n b (vP b X W)
  if n = 0 then putQ 8 b (qP b X W) else pure ⟨⟩

/-- Block `n`, whose rows are `X`: read the weights, project both batches. -/
def qkvBlock (n : Fin 8) (X : FVec F S2x128x512 .bf16) : TP PUnit := do
  let W : Vec F S512x1536 .bf16 ← Prog.lift (.load wqkv (Rect.unit (s := S512x1536) ![0, 0] S512x1536.size inb_S512x1536_S512x1536_0_0).toLoadRect (View.loadsAt_vmem h_S512x1536))
  qkvRow n 0 X W
  qkvRow n 1 X W

/-- The block `d` to the right of device `c`'s own. -/
def blk (c : Dev nD) (d : Nat) : Fin 8 := ⟨(c.val + d) % 8, Nat.mod_lt _ (by decide)⟩

/-! ## One chunk of the second phase -/

/-- One trip's payload: two heads' attention over the rows `v980`, multiplied into the output rows and added to `acc`. -/
def headP (acc : FVec F S256x512 .f32) (q : Vec F S1x256x128 .bf16) (k v : Vec F S1x1024x128 .bf16) (w : Vec F S128x512 .bf16) :
    FVec F S256x512 .f32 :=
  k0_pay175 (k0_pay4 acc q k v w) (k0_pay5 v) (k0_pay6 w) (k0_pay8 q k) (k0_pay9 q k) (constant S256x64 .f32 0x00000000#32)

/-- The loop over the four pairs of heads, with the offsets its three kinds of read use. -/
def headLoop (l : Scf.Loop 32) (hok : l.OK) (oq ok : Fin l.trips → Fin 3 → Nat) (ow : Fin l.trips → Fin 2 → Nat)
    (hq : ∀ t a, oq t a + S1x256x128.size a ≤ S2x1152x512.size a) (hk : ∀ t a, ok t a + S1x1024x128.size a ≤ S2x1024x512.size a)
    (hw : ∀ t a, ow t a + S128x512.size a ≤ S512x512.size a) : TP (FVec F S256x512 .f32) :=
  Scf.Loop.for l hok (k0_pay174 (F := F)) fun t acc => do
    let q : Vec F S1x256x128 .bf16 ← Prog.lift (.load qbuf (Rect.unit (s := S2x1152x512) (oq t) S1x256x128.size (hq t)).toLoadRect (View.loadsAt_vmem h_S1x256x128))
    let k : Vec F S1x1024x128 .bf16 ← Prog.lift (.load kbuf (Rect.unit (s := S2x1024x512) (ok t) S1x1024x128.size (hk t)).toLoadRect (View.loadsAt_vmem h_S1x1024x128))
    let v : Vec F S1x1024x128 .bf16 ← Prog.lift (.load vbuf (Rect.unit (s := S2x1024x512) (ok t) S1x1024x128.size (hk t)).toLoadRect (View.loadsAt_vmem h_S1x1024x128))
    let w : Vec F S128x512 .bf16 ← Prog.lift (.load wo16 (Rect.unit (s := S512x512) (ow t) S128x512.size (hw t)).toLoadRect (View.loadsAt_vmem h_S128x512))
    pure (headP acc q k v w)

theorem inbP (b : Fin 2) : ∀ a, (![b.val, 0, 0] : Fin 3 → Nat) a + S1x256x512.size a ≤ S2x256x512.size a := by revert b; decide
/-- Batch `b` of a partial product's buffer. -/
abbrev rP (b : Fin 2) : Rect S2x256x512 := Rect.unit (s := S2x256x512) ![b.val, 0, 0] S1x256x512.size (inbP b)
theorem packedP (b : Fin 2) : (rP b).PackedRows (EltTy.packing .bf16) := by revert b; decide +kernel

/-- Replace batch `b` of a partial product's buffer. -/
def putP (m : Memref sig .tc .vmem S2x256x512 .bf16) (hm : m.IsWhole) (b : Fin 2) (v : FVec F S1x256x512 .bf16) : TP PUnit := do
  let _ ← Prog.lift (.load m (rP b).toLoadRect (View.loadsAt_vmem h_S1x256x512))
  Prog.lift (.store m (rP b) v Finset.univ
    (View.stores_vmem h_S1x256x512 (hm.storeExact_slice rfl _ (packedP b)) (fun _ => rfl)) (.inl rfl))

/-- The lower rows of a partial product, -/
def ldLo (m : Memref sig .tc .vmem S2x256x512 .bf16) : TP (Vec F S2x128x512 .bf16) :=
  Prog.lift (.load m rlo.toLoadRect (View.loadsAt_vmem h_S2x128x512))
/-- and the upper. -/
def ldHi (m : Memref sig .tc .vmem S2x256x512 .bf16) : TP (Vec F S2x128x512 .bf16) :=
  Prog.lift (.load m rhi.toLoadRect (View.loadsAt_vmem h_S2x128x512))

/-- What is put of a loop's result: its batch's rows, rounded. -/
def partP (r : FVec F S256x512 .f32) : FVec F S1x256x512 .bf16 := k0_pay176 r
/-- What is sent on of an arrived sum and the device's own share. -/
def addP (v : Vec F S1x2x128x512 .bf16) (w : Vec F S2x128x512 .bf16) : FVec F S1x2x128x512 .bf16 := k0_pay187 (k0_pay186 v) w
/-- The result: the device's own share and the sums arrived from both sides. -/
def outP (w : Vec F S2x128x512 .bf16) (a b : Vec F S1x2x128x512 .bf16) : FVec F S2x128x512 .f32 := k0_pay206 (k0_pay205 w a) b

/-- The loop over pairs of heads of each chunk and batch, as printed: `t1` and `t2` are the first chunk's, -/
def loop1 (c : Dev nD) : TP (FVec F S256x512 .f32) :=
  headLoop k0_t1_loop k0_t1_ok (k0_off13 c) k0_off14 k0_off15 (k0_off13_inb c) k0_off14_inb k0_off15_inb
def loop2 (c : Dev nD) : TP (FVec F S256x512 .f32) :=
  headLoop k0_t2_loop k0_t2_ok (k0_off16 c) k0_off17 k0_off18 (k0_off16_inb c) k0_off17_inb k0_off18_inb
/-- `t3` and `t4` the second's, -/
def loop3 (c : Dev nD) : TP (FVec F S256x512 .f32) :=
  headLoop k0_t3_loop k0_t3_ok (k0_off19 c) k0_off20 k0_off21 (k0_off19_inb c) k0_off20_inb k0_off21_inb
def loop4 (c : Dev nD) : TP (FVec F S256x512 .f32) :=
  headLoop k0_t4_loop k0_t4_ok (k0_off22 c) k0_off23 k0_off24 (k0_off22_inb c) k0_off23_inb k0_off24_inb
/-- `t5` and `t6` the third's, -/
def loop5 (c : Dev nD) : TP (FVec F S256x512 .f32) :=
  headLoop k0_t5_loop k0_t5_ok (k0_off25 c) k0_off26 k0_off27 (k0_off25_inb c) k0_off26_inb k0_off27_inb
def loop6 (c : Dev nD) : TP (FVec F S256x512 .f32) :=
  headLoop k0_t6_loop k0_t6_ok (k0_off28 c) k0_off29 k0_off30 (k0_off28_inb c) k0_off29_inb k0_off30_inb
/-- and `t7` and `t8` the fourth's. -/
def loop7 (c : Dev nD) : TP (FVec F S256x512 .f32) :=
  headLoop k0_t7_loop k0_t7_ok (k0_off31 c) k0_off32 k0_off33 (k0_off31_inb c) k0_off32_inb k0_off33_inb
def loop8 (c : Dev nD) : TP (FVec F S256x512 .f32) :=
  headLoop k0_t8_loop k0_t8_ok (k0_off34 c) k0_off35 k0_off36 (k0_off34_inb c) k0_off35_inb k0_off36_inb

/-! ## The body -/

/-- Announce this device to both neighbours and wait for both. -/
def barrierP (c : Dev nD) : TP PUnit := do
  semSignalWord (prv c) (0 : Sem sig) 1#32
  semSignalWord (nxt c) (0 : Sem sig) 1#32
  semWaitWord (0 : Sem sig) 2#32

/-- The whole of a block of the tensor `x`'s shape, -/
abbrev rX : Rect S2x128x512 := Rect.unit (s := S2x128x512) ![0, 0, 0] S2x128x512.size inb_S2x128x512_S2x128x512_0_0_0
/-- of a square weight's, -/
abbrev rW : Rect S512x512 := Rect.unit (s := S512x512) ![0, 0] S512x512.size inb_S512x512_S512x512_0_0
/-- and the three parts of the packed weights. -/
abbrev rW1 : Rect S512x1536 := Rect.unit (s := S512x1536) ![0, 0] S512x512.size inb_S512x1536_S512x512_0_0
abbrev rW2 : Rect S512x1536 := Rect.unit (s := S512x1536) ![0, 512] S512x512.size inb_S512x1536_S512x512_0_512
abbrev rW3 : Rect S512x1536 := Rect.unit (s := S512x1536) ![0, 1024] S512x512.size inb_S512x1536_S512x512_0_1024

/-- Round the block of `x` and the weights into scratch. -/
def roundP (a0 : Memref sig .tc .vmem S2x128x512 .f32) (a1 a2 a3 a4 : Memref sig .tc .vmem S512x512 .f32) : TP PUnit := do
  let v : Vec F S2x128x512 .f32 ← Prog.lift (.load a0 rX.toLoadRect (View.loadsAt_vmem h_S2x128x512))
  let _ ← Prog.lift (.load x16 rX.toLoadRect (View.loadsAt_vmem h_S2x128x512))
  Prog.lift (.store x16 rX (k0_pay73 v) Finset.univ (View.stores_vmem h_S2x128x512 ((Memref.isWhole_whole cc0_scratch0).storeExact_slice rfl _ packedbf16_S2x128x512_S2x128x512_0_0_0) (fun _ => rfl)) (.inl rfl))
  let v : Vec F S512x512 .f32 ← Prog.lift (.load a1 rW.toLoadRect (View.loadsAt_vmem h_S512x512))
  let _ ← Prog.lift (.load wqkv rW1.toLoadRect (View.loadsAt_vmem h_S512x512))
  Prog.lift (.store wqkv rW1 (k0_pay74 v) Finset.univ (View.stores_vmem h_S512x512 ((Memref.isWhole_whole cc0_scratch10).storeExact_slice rfl _ packedbf16_S512x1536_S512x512_0_0) (fun _ => rfl)) (.inl rfl))
  let v : Vec F S512x512 .f32 ← Prog.lift (.load a3 rW.toLoadRect (View.loadsAt_vmem h_S512x512))
  let _ ← Prog.lift (.load wqkv rW2.toLoadRect (View.loadsAt_vmem h_S512x512))
  Prog.lift (.store wqkv rW2 (k0_pay75 v) Finset.univ (View.stores_vmem h_S512x512 ((Memref.isWhole_whole cc0_scratch10).storeExact_slice rfl _ packedbf16_S512x1536_S512x512_0_512) (fun _ => rfl)) (.inl rfl))
  let v : Vec F S512x512 .f32 ← Prog.lift (.load a4 rW.toLoadRect (View.loadsAt_vmem h_S512x512))
  let _ ← Prog.lift (.load wqkv rW3.toLoadRect (View.loadsAt_vmem h_S512x512))
  Prog.lift (.store wqkv rW3 (k0_pay76 v) Finset.univ (View.stores_vmem h_S512x512 ((Memref.isWhole_whole cc0_scratch10).storeExact_slice rfl _ packedbf16_S512x1536_S512x512_0_1024) (fun _ => rfl)) (.inl rfl))
  let v : Vec F S512x512 .f32 ← Prog.lift (.load a2 rW.toLoadRect (View.loadsAt_vmem h_S512x512))
  let _ ← Prog.lift (.load wo16 rW.toLoadRect (View.loadsAt_vmem h_S512x512))
  Prog.lift (.store wo16 rW (k0_pay77 v) Finset.univ (View.stores_vmem h_S512x512 ((Memref.isWhole_whole cc0_scratch11).storeExact_slice rfl _ packedbf16_S512x512_S512x512_0_0) (fun _ => rfl)) (.inl rfl))

/-- Project this device's own block, -/
def own (c : Dev nD) : TP PUnit := do
  let X : Vec F S2x128x512 .bf16 ← Prog.lift (.load x16 rX.toLoadRect (View.loadsAt_vmem h_S2x128x512))
  qkvBlock (blk c 0) X
/-- the block in slot `h` of those that came from the left, -/
def fromL (c : Dev nD) (h : Fin 4) : TP PUnit := do
  let X ← ld4 rbuf h
  qkvBlock (blk c (7 - h.val)) (k0_pay101 X)
/-- and of those that came from the right. -/
def fromR (c : Dev nD) (h : Fin 3) : TP PUnit := do
  let X ← ld3 lbuf h
  qkvBlock (blk c (1 + h.val)) (k0_pay101 X)

/-- First phase: gather everyone's block around the ring in both directions, projecting each on arrival. -/
def gatherP (c : Dev nD) : TP PUnit := do
  sendOp c 0; sendOp c 1; own c
  waitR 0; sendOp c 2; waitR 1; sendOp c 3; fromL c 0; fromR c 0
  waitR 2; sendOp c 4; waitR 3; sendOp c 5; fromL c 1; fromR c 1
  waitR 4; sendOp c 6; waitR 5; fromL c 2; fromR c 2
  waitR 6; fromL c 3
  waitS 0; waitS 2; waitS 4; waitS 6; waitS 1; waitS 3; waitS 5

/-- The first chunk's partial product, -/
def chunkA (c : Dev nD) : TP PUnit := do
  let r ← loop1 c
  putP pcA (Memref.isWhole_whole _) 0 (partP r)
  let r ← loop2 c
  putP pcA (Memref.isWhole_whole _) 1 (partP r)
/-- the second's, with the first arrived sum read, -/
def chunkB (c : Dev nD) : TP (FVec F S2x128x512 .f32) := do
  let r ← loop3 c
  putP pcB (Memref.isWhole_whole _) 0 (partP r)
  let r ← loop4 c
  putP pcB (Memref.isWhole_whole _) 1 (partP r)
  waitR 7
  let v ← ld3 rsR 0
  pure (k0_pay186 v)
/-- the third's up to its last write, -/
def chunkC (c : Dev nD) : TP (FVec F S1x256x512 .bf16) := do
  let r ← loop5 c
  putP pcA (Memref.isWhole_whole _) 0 (partP r)
  let r ← loop6 c
  let _ ← Prog.lift (.load pcA (rP 1).toLoadRect (View.loadsAt_vmem h_S1x256x512))
  pure (partP r)
/-- and the fourth's up to its last read. -/
def chunkD (c : Dev nD) : TP (FVec F S256x512 .bf16) := do
  let r ← loop7 c
  putP pcB (Memref.isWhole_whole _) 0 (partP r)
  let r ← loop8 c
  pure (k0_pay202 r)

/-- The write of batch 1 that `chunkC` leaves out. -/
def stP1 (v : FVec F S1x256x512 .bf16) : TP PUnit :=
  Prog.lift (.store pcA (rP 1) v Finset.univ
    (View.stores_vmem h_S1x256x512 ((Memref.isWhole_whole cc0_scratch6).storeExact_slice rfl _ (packedP 1)) (fun _ => rfl)) (.inl rfl))

/-- Put the sum of an arrived slot and half a partial product back in the slot. -/
def accR (h : Fin 3) (v : FVec F S2x128x512 .f32) (w : Vec F S2x128x512 .bf16) : TP PUnit := do
  let _ ← ld3 (F := F) rsR h
  st3 rsR (Memref.isWhole_whole _) h (k0_pay187 v w)
def accL (h : Fin 4) (v : Vec F S1x2x128x512 .bf16) (w : Vec F S2x128x512 .bf16) : TP PUnit := do
  let _ ← ld4 (F := F) rsL h
  st4 rsL (Memref.isWhole_whole _) h (addP v w)

/-- The last sums, written to the result. -/
def finishP (a5 : Memref sig .tc .vmem S2x128x512 .f32) : TP PUnit := do
  let w ← ldHi pcB
  let a ← ld3 rsR 2
  let b ← ld4 rsL 3
  let _ : Vec F S2x128x512 .f32 ← Prog.lift (.load a5 rX.toLoadRect (View.loadsAt_vmem h_S2x128x512))
  Prog.lift (.store a5 rX (outP w a b) Finset.univ (View.stores_vmem_bits_univ h_S2x128x512 rfl) (.inl rfl))

/-- Everything up to the last wait. -/
def tail42 (c : Dev nD) (a0 : Memref sig .tc .vmem S2x128x512 .f32) (a1 a2 a3 a4 : Memref sig .tc .vmem S512x512 .f32)
    (a5 : Memref sig .tc .vmem S2x128x512 .f32) : TP PUnit := do
  barrierP c
  roundP a0 a1 a2 a3 a4
  gatherP c
  chunkA c
  sendOp c 7; sendOp c 8
  let v ← chunkB c
  let w ← ldHi pcB
  accR 0 v w
  sendOp c 9; waitS 7; waitS 8
  let r ← chunkC c
  stP1 r
  waitR 8
  let v ← ld4 rsL 0
  let w ← ldLo pcA
  accL 0 v w
  sendOp c 10; waitR 9
  let v ← ld3 rsR 1
  let w ← ldLo pcB
  accR 1 (k0_pay186 v) w
  sendOp c 11; waitR 10
  let v ← ld4 rsL 1
  let w ← ldHi pcA
  accL 1 v w
  sendOp c 12
  let r ← chunkD c
  putP pcB (Memref.isWhole_whole _) 1 (k0_pay203 r)
  waitR 12
  let v ← ld4 rsL 2
  let w ← ldLo pcB
  accL 2 v w
  sendOp c 13; waitR 11; waitR 13
  finishP a5
  waitS 9; waitS 11; waitS 10; waitS 12

/-- The body of device `c`, after it has read its own number. -/
def myTail (c : Dev nD) (a0 : Memref sig .tc .vmem S2x128x512 .f32) (a1 a2 a3 a4 : Memref sig .tc .vmem S512x512 .f32)
    (a5 : Memref sig .tc .vmem S2x128x512 .f32) : TP PUnit := do
  tail42 c a0 a1 a2 a3 a4 a5
  waitS 13

end Cert.KernelIdeal.Gen.Mine
-- ==== Proof.Values.lean ====
module

public import proofs.«01_k».proof.Proof.Body
public import Idealize.ShloMosaic.Lib.ValueIdxCore
public import Idealize.ShloMosaic.Lib.ValueLayout

/-! # What every buffer holds, as functions of the devices' inputs -/

@[expose] public section

noncomputable section

namespace Cert.KernelIdeal.Gen.Mine

open Cert.KernelIdeal Cert.KernelIdeal.Gen
open Idealize.ShloMosaic Idealize.ShloMosaic.TcCoe Idealize.SL.Sem Idealize.ShloMosaic.ValueIdx

variable {F : FTy → Type} [FloatOps F]

/-- The devices' blocks of the five inputs. -/
structure Inp (F : FTy → Type) where
  x : Dev nD → Vec F S2x128x512 .f32
  wq : Dev nD → Vec F S512x512 .f32
  wo : Dev nD → Vec F S512x512 .f32
  wk : Dev nD → Vec F S512x512 .f32
  wv : Dev nD → Vec F S512x512 .f32

/-- Three square weights side by side. -/
def wCat (A B C : Vec F S512x512 .bf16) : Vec F S512x1536 .bf16 := fun i =>
  if h : (i 1).val < 512 then A (ix2 (i 0) ⟨(i 1).val, h⟩)
  else if h2 : (i 1).val < 1024 then B (ix2 (i 0) ⟨(i 1).val - 512, by omega⟩)
  else C (ix2 (i 0) ⟨(i 1).val - 1024, by have : (i 1).val < 1536 := (i 1).isLt; omega⟩)

/-- A slot's block without its leading unit axis, -/
def sq (v : Vec F S1x2x128x512 .bf16) : Vec F S2x128x512 .bf16 := k0_pay101 v
/-- and with it. -/
def unsq (v : Vec F S2x128x512 .bf16) : Vec F S1x2x128x512 .bf16 := fun i => v (ix3 (i 1) (i 2) (i 3))

/-- The lower rows of a partial product, -/
def lo (p : Vec F S2x256x512 .bf16) : Vec F S2x128x512 .bf16 :=
  fun i => p (ix3 (i 0) ⟨(i 1).val, by have : (i 1).val < 128 := (i 1).isLt; omega⟩ (i 2))
/-- and the upper. -/
def hi (p : Vec F S2x256x512 .bf16) : Vec F S2x128x512 .bf16 :=
  fun i => p (ix3 (i 0) ⟨128 + (i 1).val, by have : (i 1).val < 128 := (i 1).isLt; omega⟩ (i 2))

namespace Inp
variable (I : Inp F)

/-- Device `c`'s block of `x`, rounded. -/
def xb (c : Dev nD) : Vec F S2x128x512 .bf16 := k0_pay73 (I.x c)
/-- Its packed weights, -/
def wcat (c : Dev nD) : Vec F S512x1536 .bf16 := wCat (k0_pay74 (I.wq c)) (k0_pay75 (I.wk c)) (k0_pay76 (I.wv c))
/-- and its output weights. -/
def wob (c : Dev nD) : Vec F S512x512 .bf16 := k0_pay77 (I.wo c)

/-- The block of a row. -/
def rowBlk (r : Nat) : Fin 8 := ⟨r / 128 % 8, Nat.mod_lt _ (by decide)⟩

/-- Device `c`'s queries of every row (the first block's rows once more at the end), -/
def qF (c : Dev nD) : Vec F S2x1152x512 .bf16 := fun i =>
  qP (i 0) (I.xb (rowBlk (i 1).val)) (I.wcat c) (ix3 0 ⟨(i 1).val % 128, Nat.mod_lt _ (by decide)⟩ (i 2))
/-- its keys, -/
def kF (c : Dev nD) : Vec F S2x1024x512 .bf16 := fun i =>
  kP (i 0) (I.xb (rowBlk (i 1).val)) (I.wcat c) (ix3 0 ⟨(i 1).val % 128, Nat.mod_lt _ (by decide)⟩ (i 2))
/-- and its values. -/
def vF (c : Dev nD) : Vec F S2x1024x512 .bf16 := fun i =>
  vP (i 0) (I.xb (rowBlk (i 1).val)) (I.wcat c) (ix3 0 ⟨(i 1).val % 128, Nat.mod_lt _ (by decide)⟩ (i 2))

/-- What the `t`-th trip of the loop over pairs of heads reads: the two heads' queries of 256 rows from block `n` on, -/
def qT (c : Dev nD) (n : Fin 8) (b : Fin 2) (t : Fin 4) : Vec F S1x256x128 .bf16 := fun i =>
  I.qF c (ix3 b ⟨128 * n.val + (i 1).val, by have : (i 1).val < 256 := (i 1).isLt; omega⟩
    ⟨128 * t.val + (i 2).val, by have : (i 2).val < 128 := (i 2).isLt; omega⟩)
/-- their keys of every row, -/
def kT (c : Dev nD) (b : Fin 2) (t : Fin 4) : Vec F S1x1024x128 .bf16 := fun i =>
  I.kF c (ix3 b (i 1) ⟨128 * t.val + (i 2).val, by have : (i 2).val < 128 := (i 2).isLt; omega⟩)
/-- their values, -/
def vT (c : Dev nD) (b : Fin 2) (t : Fin 4) : Vec F S1x1024x128 .bf16 := fun i =>
  I.vF c (ix3 b (i 1) ⟨128 * t.val + (i 2).val, by have : (i 2).val < 128 := (i 2).isLt; omega⟩)
/-- and their rows of the output weights. -/
def wT (c : Dev nD) (t : Fin 4) : Vec F S128x512 .bf16 := fun i =>
  I.wob c (ix2 ⟨128 * t.val + (i 0).val, by have : (i 0).val < 128 := (i 0).isLt; omega⟩ (i 1))

/-- The loop's sum after `t` trips. -/
def headAcc (c : Dev nD) (n : Fin 8) (b : Fin 2) : Nat → FVec F S256x512 .f32
  | 0 => k0_pay174
  | t + 1 => if h : t < 4 then headP (headAcc c n b t) (I.qT c n b ⟨t, h⟩) (I.kT c b ⟨t, h⟩) (I.vT c b ⟨t, h⟩) (I.wT c ⟨t, h⟩)
      else headAcc c n b t

/-- Device `c`'s share of 256 rows of the result from block `n` on. -/
def part (c : Dev nD) (n : Fin 8) : Vec F S2x256x512 .bf16 := fun i =>
  partP (I.headAcc c n (i 0) 4) (ix3 0 (i 1) (i 2))

/-- An arrived sum and the device's own share, rounded. -/
def add (a w : Vec F S2x128x512 .bf16) : Vec F S2x128x512 .bf16 := sq (addP (unsq a) w)

/-- What device `c` sends in the second phase, transfer by transfer. -/
def s7 (c : Dev nD) : Vec F S2x128x512 .bf16 := lo (I.part c (blk c 3))
def s8 (c : Dev nD) : Vec F S2x128x512 .bf16 := hi (I.part c (blk c 3))
def s9 (c : Dev nD) : Vec F S2x128x512 .bf16 := add (I.s7 (prv c)) (hi (I.part c (blk c 1)))
def s10 (c : Dev nD) : Vec F S2x128x512 .bf16 := add (I.s8 (nxt c)) (lo (I.part c (blk c 5)))
def s11 (c : Dev nD) : Vec F S2x128x512 .bf16 := add (I.s9 (prv c)) (lo (I.part c (blk c 1)))
def s12 (c : Dev nD) : Vec F S2x128x512 .bf16 := add (I.s10 (nxt c)) (hi (I.part c (blk c 5)))
def s13 (c : Dev nD) : Vec F S2x128x512 .bf16 := add (I.s12 (nxt c)) (lo (I.part c (blk c 7)))

/-- What device `c` sends in transfer `j`. -/
def sent (c : Dev nD) : Fin 14 → Vec F S2x128x512 .bf16
  | 0 => I.xb c | 1 => I.xb c
  | 2 => I.xb (prv c) | 3 => I.xb (nxt c)
  | 4 => I.xb (prv (prv c)) | 5 => I.xb (nxt (nxt c))
  | 6 => I.xb (prv (prv (prv c)))
  | 7 => I.s7 c | 8 => I.s8 c | 9 => I.s9 c | 10 => I.s10 c | 11 => I.s11 c | 12 => I.s12 c | 13 => I.s13 c

/-- The result on device `c`. -/
def out (c : Dev nD) : FVec F S2x128x512 .f32 :=
  outP (hi (I.part c (blk c 7))) (unsq (I.s11 (prv c))) (unsq (I.s13 (nxt c)))

end Inp

theorem sq_apply (v : Vec F S1x2x128x512 .bf16) (a : Fin 2) (b : Fin 128) (d : Fin 512) :
    sq v (ix3 a b d) = v (ix4 0 a b d) := shapeCast_1abc_abc_apply _ _ _ _ _

theorem sq_unsq (v : Vec F S2x128x512 .bf16) : sq (unsq v) = v := by
  funext i
  obtain ⟨a, b, d, rfl⟩ : ∃ a b d, i = ix3 a b d := ⟨_, _, _, eq_ix3 i⟩
  rw [sq_apply]; rfl

theorem unsq_sq (v : Vec F S1x2x128x512 .bf16) : unsq (sq v) = v := by
  funext i
  obtain ⟨z, a, b, d, rfl⟩ : ∃ z a b d, i = ix4 z a b d := ⟨_, _, _, _, eq_ix4 i⟩
  obtain rfl : z = 0 := Subsingleton.elim _ _
  exact sq_apply v a b d

end Cert.KernelIdeal.Gen.Mine
-- ==== Proof.Protocol.lean ====
module

public import proofs.«01_k».proof.Proof.Values

/-! # The ring's protocol

Each device has one barrier cell, which both neighbours raise, and for every transfer a departure cell and an arrival
cell. A neighbour's barrier signal hands over the buffers the device may write on it; a departure gives the source back;
an arrival gives the destination, filled. Arrival cells are ordered by the order in which the transfers are started, and
every wait for an arrival comes before the start of any later transfer is still owed to a cell below it. -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ
local notation "TP" => Prog (TpuEff nD τ sig (Elt F) Λ₀ Proc.tc)

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- The propositions of the logic. -/
abbrev SP (F : FTy → Type) [FloatOps F] : Type := sProp (MT nD τ sig Unit (Elt F) ℕ UU ℕ)

/-- The weakest precondition of a program on device `c`'s core. -/
abbrev WP (c : Dev nD) {α : Type} (p : TP α) (Q : α → sProp 𝕄) : sProp 𝕄 :=
  wp frame (wpE (defs₀ (F := F)) 𝒱₀ (c : Thread nD τ) none) Set.univ p Q

/-! ## The ring -/

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩
theorem from_peer (c : Dev nD) (j : Fin 14) : from_ (peer c j) j = c := by revert c j; decide
theorem peer_from (c : Dev nD) (j : Fin 14) : peer (from_ c j) j = c := by revert c j; decide

/-! ## The cells -/

abbrev barS : Sem sig := 0
abbrev barCell (c : Dev nD) : GSem nD τ sig := ((c : Thread nD τ), .reg barS)
abbrev sendCell (c : Dev nD) (j : Fin 14) : GSem nD τ sig := ((c : Thread nD τ), .dma (sendSem j))
abbrev recvCell (c : Dev nD) (j : Fin 14) : GSem nD τ sig := ((c : Thread nD τ), .dma (recvSem j))

/-- Which transfer a semaphore belongs to: its departure (`false`) or its arrival (`true`). -/
def kindOf (q : DmaSem sig) : Option (Bool × Fin 14) :=
  match q with
  | 6 => some (false, 0) | 14 => some (false, 1) | 7 => some (false, 2) | 15 => some (false, 3) | 8 => some (false, 4)
  | 16 => some (false, 5) | 9 => some (false, 6) | 20 => some (false, 7) | 26 => some (false, 8) | 21 => some (false, 9)
  | 27 => some (false, 10) | 22 => some (false, 11) | 28 => some (false, 12) | 29 => some (false, 13)
  | 10 => some (true, 0) | 17 => some (true, 1) | 11 => some (true, 2) | 18 => some (true, 3) | 12 => some (true, 4)
  | 19 => some (true, 5) | 13 => some (true, 6) | 23 => some (true, 7) | 30 => some (true, 8) | 24 => some (true, 9)
  | 31 => some (true, 10) | 25 => some (true, 11) | 32 => some (true, 12) | 33 => some (true, 13)
  | _ => none

theorem kindOf_send (j : Fin 14) : kindOf (sendSem j) = some (false, j) := by revert j; decide
theorem kindOf_recv (j : Fin 14) : kindOf (recvSem j) = some (true, j) := by revert j; decide

/-- The bytes' credit of one transfer. -/
abbrev N : ℕ := (sl4 rbuf 0).view.dmaCredit
theorem N_pos : 0 < N := View.dmaCredit_pos _ (by decide)
theorem credit_dst (j : Fin 14) : (dstM j).view.dmaCredit = N := by fin_cases j <;> rfl
theorem credit_wdst (j : Fin 14) : (wdst j).view.dmaCredit = N := by fin_cases j <;> rfl

/-- The share of its source a transfer takes. -/
def qsh : Fin 14 → PosShare TreeShare
  | 0 => fullShare.left | 1 => fullShare.right.left
  | 2 => fullShare.left | 3 => fullShare.left | 4 => fullShare.left | 5 => fullShare.left | 6 => fullShare.left
  | _ => fullShare

variable (I : Inp F)

/-! ## The schedule -/

/-- What a neighbour's signal hands device `c`: the buffers that `c`'s transfers write on it. -/
def barPay (c : Dev nD) (d : Bool) : sProp 𝕄 :=
  bigSep (Finset.univ.filter fun j : Fin 14 => toRight j = d) fun j =>
    iprop(∃ Y, owns (peer c j : Thread nD τ) (dstM j) fullShare Y)
/-- What transfer `j` gives back on its departure from device `c`, -/
def sendPay (c : Dev nD) (j : Fin 14) : sProp 𝕄 := owns (c : Thread nD τ) (srcM j) (qsh j) (I.sent c j)
/-- and on its arrival at `c`. -/
def recvPay (c : Dev nD) (j : Fin 14) : sProp 𝕄 := owns (c : Thread nD τ) (dstM j) fullShare (I.sent (from_ c j) j)

instance barPay_storable (c : Dev nD) (d : Bool) : BI.Storable (upEmb : UEmb _ 𝕄) (barPay (F := F) c d) := by
  unfold barPay; infer_instance
instance sendPay_storable (c : Dev nD) (j : Fin 14) : BI.Storable (upEmb : UEmb _ 𝕄) (sendPay I c j) := by
  unfold sendPay; infer_instance
instance recvPay_storable (c : Dev nD) (j : Fin 14) : BI.Storable (upEmb : UEmb _ 𝕄) (recvPay I c j) := by
  unfold recvPay; infer_instance

/-- What a cell's payment carries. -/
def payOf (c : Dev nD) (s : SemLoc sig) (d : Bool) : sProp 𝕄 :=
  match s with
  | .reg _ => barPay c d
  | .dma q => match kindOf q with
    | some (false, j) => sendPay I c j
    | some (true, j) => recvPay I c j
    | none => iprop(emp)

instance payOf_storable (c : Dev nD) (s : SemLoc sig) (d : Bool) : BI.Storable (upEmb : UEmb _ 𝕄) (payOf I c s d) := by
  unfold payOf; (repeat' split) <;> infer_instance

/-- The duties of a cell's only round. -/
def dutiesOf (s : SemLoc sig) : Finset Bool :=
  match s with
  | .reg _ => Finset.univ
  | .dma q => if (kindOf q).isSome then {false} else ∅

/-- One round, round 0: a barrier cell has one unit from each neighbour, a transfer's cell the block's credit. -/
def ringRd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := payOf I g.1.1 g.2 d
  amount_pos g _ _ _ := by
    cases h : g.2
    · exact Nat.one_pos
    · exact N_pos

instance ringRd_payload_storable (g : GSem nD τ sig) (r : ℕ) (d : Bool) :
    BI.Storable (upEmb : UEmb _ 𝕄) ((ringRd I).payload g r d) := payOf_storable I _ _ _

section Sched
variable (c : Dev nD) (j : Fin 14)

theorem duties_bar : (ringRd I).duties (barCell c) 0 = Finset.univ := by dsimp only [ringRd]; exact if_pos ⟨rfl, rfl⟩
theorem duties_send : (ringRd I).duties (sendCell c j) 0 = {false} := by
  dsimp only [ringRd]; rw [if_pos ⟨rfl, rfl⟩]
  simp only [dutiesOf, kindOf_send, Option.isSome_some, if_true]
theorem duties_recv : (ringRd I).duties (recvCell c j) 0 = {false} := by
  dsimp only [ringRd]; rw [if_pos ⟨rfl, rfl⟩]
  simp only [dutiesOf, kindOf_recv, Option.isSome_some, if_true]
theorem duties_later (g : GSem nD τ sig) : ∀ r, 1 ≤ r → (ringRd I).duties g r = ∅ :=
  fun r hr => by dsimp only [ringRd]; exact if_neg fun h => by omega

theorem amount_bar (d : Bool) : (ringRd I).amount (barCell c) 0 d = 1 := rfl
theorem amount_send (d : Bool) : (ringRd I).amount (sendCell c j) 0 d = N := rfl
theorem amount_recv (d : Bool) : (ringRd I).amount (recvCell c j) 0 d = N := rfl

theorem expect_bar : (ringRd I).expect (barCell c) 0 = 2 := by
  unfold Schedule.expect Schedule.amountOf
  rw [duties_bar, Finset.sum_congr rfl fun d _ => amount_bar I c d, Finset.sum_const, Finset.card_univ, Fintype.card_bool, smul_eq_mul]
theorem expect_send : (ringRd I).expect (sendCell c j) 0 = N := by
  unfold Schedule.expect Schedule.amountOf; rw [duties_send, Finset.sum_singleton, amount_send]
theorem expect_recv : (ringRd I).expect (recvCell c j) 0 = N := by
  unfold Schedule.expect Schedule.amountOf; rw [duties_recv, Finset.sum_singleton, amount_recv]

theorem payload_bar (d : Bool) : (ringRd I).payload (barCell c) 0 d = barPay c d := rfl
theorem payload_send (d : Bool) : (ringRd I).payload (sendCell c j) 0 d = sendPay I c j := by
  show payOf I c (.dma (sendSem j)) d = _; simp only [payOf, kindOf_send]
theorem payload_recv (d : Bool) : (ringRd I).payload (recvCell c j) 0 d = recvPay I c j := by
  show payOf I c (.dma (recvSem j)) d = _; simp only [payOf, kindOf_recv]

theorem rest_bar : bigSep ((ringRd I).duties (barCell c) 0 \ ∅) (fun d => (ringRd I).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_send : bigSep ((ringRd I).duties (sendCell c j) 0 \ ∅) (fun d => (ringRd I).payload (sendCell c j) 0 d) = sendPay I c j := by
  rw [Finset.sdiff_empty, duties_send, bigSep_singleton, payload_send]
theorem rest_recv : bigSep ((ringRd I).duties (recvCell c j) 0 \ ∅) (fun d => (ringRd I).payload (recvCell c j) 0 d) = recvPay I c j := by
  rw [Finset.sdiff_empty, duties_recv, bigSep_singleton, payload_recv]

end Sched

/-! ## What each core owes; the levels -/

/-- What device `c` owes once its first `n` transfers are started: the arrivals of the others. -/
def D (c : Dev nD) (n : ℕ) : CellTallies nD τ sig Unit :=
  ∑ j ∈ Finset.univ.filter (fun j : Fin 14 => n ≤ j.val), tallyAt (recvCell (peer c j) j) () N
/-- Before its second barrier signal, -/
def O₁ (c : Dev nD) : CellTallies nD τ sig Unit := D c 0 + tallyAt (barCell (nxt c)) () 1
/-- and before its first. -/
def O₀ (c : Dev nD) : CellTallies nD τ sig Unit := O₁ c + tallyAt (barCell (prv c)) () 1

theorem D_peel (c : Dev nD) (j : Fin 14) : D c j.val = D c (j.val + 1) + tallyAt (recvCell (peer c j) j) () N := by
  have h : Finset.univ.filter (fun i : Fin 14 => j.val ≤ i.val) = insert j (Finset.univ.filter (fun i : Fin 14 => j.val + 1 ≤ i.val)) := by
    ext i; simp only [Finset.mem_filter, Finset.mem_univ, true_and, Finset.mem_insert, Fin.ext_iff]; omega
  unfold D
  rw [h, Finset.sum_insert (by simp), add_comm]

theorem D_end (c : Dev nD) : D c 14 = 0 := by
  unfold D; rw [Finset.filter_false_of_mem fun i _ => by omega, Finset.sum_empty]

theorem D_pos {c : Dev nD} {n : ℕ} {g : GSem nD τ sig} {u : Unit} (h : 0 < D c n g u) :
    ∃ j : Fin 14, n ≤ j.val ∧ g = recvCell (peer c j) j := by
  unfold D at h
  rw [Finset.sum_apply, Finsupp.finset_sum_apply] at h
  obtain ⟨j, hj, hp⟩ := Finset.exists_ne_zero_of_sum_ne_zero (Nat.ne_of_gt h)
  refine ⟨j, (Finset.mem_filter.mp hj).2, ?_⟩
  by_contra hn
  exact hp (by rw [tallyAt_apply, if_neg fun h' => hn h'.1])

def L (g : GSem nD τ sig) : Finset Unit := if g.1.2 = .tc then {()} else ∅
/-- barrier cells at 1, the arrival of transfer `j` at `2 + j`, everything else at 0. -/
def lv (g : GSem nD τ sig) (_ : Unit) : ℕ :=
  match g.2 with
  | .reg _ => 1
  | .dma q => match kindOf q with
    | some (true, j) => 2 + j.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 14) : lv (recvCell c j) () = 2 + j.val := by
  simp only [lv, kindOf_recv]
theorem lv_send (c : Dev nD) (j : Fin 14) : lv (sendCell c j) () = 0 := by
  simp only [lv, kindOf_send]

/-- A wait for a cell below every arrival still owed. -/
theorem mayWait_D (c : Dev nD) (sm : SemLoc sig) (n : ℕ) (h : ∀ j : Fin 14, n ≤ j.val → lv ((c : Thread nD τ), sm) () < 2 + j.val) :
    (levAts L lv : sProp 𝕄) ⊢ MayWait (c : Thread nD τ) sm () (D c n) :=
  MayOwe.of_cut (L := L) (lev := lv) (lv ((c : Thread nD τ), sm) ())
    (fun p hp => by rw [Finset.mem_singleton.mp hp, L_tc]; exact Finset.mem_singleton_self _)
    (fun g u hg => by obtain ⟨j, -, rfl⟩ := D_pos hg; rw [L_tc]; exact Finset.mem_singleton_self _)
    (fun p hp => by rw [Finset.mem_singleton.mp hp])
    (fun g u hg => by obtain ⟨j, hj, rfl⟩ := D_pos hg; rw [lv_recv]; exact h j hj)

/-! ## The cells' records -/

/-- A device's cells: its barrier's, then the departures, then the arrivals. -/
abbrev CIx : Type := Unit ⊕ (Fin 14 ⊕ Fin 14)
def csem : CIx → SemLoc sig
  | .inl _ => .reg barS
  | .inr (.inl j) => .dma (sendSem j)
  | .inr (.inr j) => .dma (recvSem j)
abbrev kcell (ck : Dev nD × CIx) : GSem nD τ sig := ((ck.1 : Thread nD τ), csem ck.2)

/-- Every cell's invariant and that its round 0 is reached. -/
def records (K : Dev nD × CIx → ℕ) : sProp 𝕄 :=
  iprop((bigSep Finset.univ fun ck => cellInv ER (ringRd I) (K ck) (kcell ck)) ∗ bigSep Finset.univ fun ck => (reached ER (kcell ck) 0 : sProp 𝕄))

instance records_persistent (K : Dev nD × CIx → ℕ) : BI.Persistent (records I K) := by unfold records; infer_instance

theorem inv_at (K : Dev nD × CIx → ℕ) (ck : Dev nD × CIx) : records I K ⊢ cellInv ER (ringRd I) (K ck) (kcell ck) := by
  have h : (bigSep Finset.univ fun ck : Dev nD × CIx => (cellInv ER (ringRd I) (K ck) (kcell ck) : sProp 𝕄))
    ⊢ cellInv ER (ringRd I) (K ck) (kcell ck) := bigSep_elim (Finset.mem_univ ck)
  unfold records; iintro ⟨H, -⟩; iapply h; iexact H
theorem reached_at (K : Dev nD × CIx → ℕ) (ck : Dev nD × CIx) : records I K ⊢ reached ER (kcell ck) 0 := by
  have h : (bigSep Finset.univ fun ck : Dev nD × CIx => (reached ER (kcell ck) 0 : sProp 𝕄)) ⊢ reached ER (kcell ck) 0 :=
    bigSep_elim (Finset.mem_univ ck)
  unfold records; iintro ⟨-, H⟩; iapply h; iexact H

/-! ## Where a device stands among its transfers -/

variable (c : Dev nD)

/-- The departure of transfer `j` after `n` starts: waited for (`j ∈ S`); started; or still to start. -/
def sendSt (n : ℕ) (S : Finset (Fin 14)) (j : Fin 14) : sProp 𝕄 :=
  if j ∈ S then semVal (sendCell c j) 0
  else if j.val < n then iprop(cred (tallyAt (sendCell c j) () N) ∗ atPos ER (sendCell c j) 0 ∅ 0)
  else iprop(dutyTok ER (sendCell c j) 0 false ∗ dutyTok ER (recvCell (peer c j) j) 0 false
    ∗ (∃ Y, owns (peer c j : Thread nD τ) (dstM j) fullShare Y) ∗ atPos ER (sendCell c j) 0 ∅ 0)
/-- The arrival of transfer `j`: waited for (`j ∈ R`) or not yet. -/
def recvSt (R : Finset (Fin 14)) (j : Fin 14) : sProp 𝕄 :=
  if j ∈ R then semVal (recvCell c j) 0
  else iprop(cred (tallyAt (recvCell c j) () N) ∗ atPos ER (recvCell c j) 0 ∅ 0)

/-- Device `c` after its first `n` starts, having waited for the departures in `S` and the arrivals in `R`. -/
def Comm (n : ℕ) (S R : Finset (Fin 14)) : sProp 𝕄 :=
  iprop((∃ K, records I K) ∗ levAts L lv ∗ (bigSep Finset.univ (sendSt c n S)) ∗ (bigSep Finset.univ (recvSt c R))
    ∗ ∃ W, owes (c : Thread nD τ) (D c n) W)

variable {α : Type} {Q : α → SP F}

/-- What a departing transfer lends is its departure's payment; -/
theorem pay_send (j : Fin 14) {fs : Buf (Elt F) ((srcM j).view.loc (c : Thread nD τ))} (hfs : (srcM j).view.read (Elt F) fs = I.sent c j) :
    ((srcM j).view.loc (c : Thread nD τ) ↦[(srcM j).view.set]{qsh j} fs : sProp 𝕄) ⊢ (ringRd I).payload (sendCell c j) 0 false := by
  rw [payload_send]; unfold sendPay owns
  iintro H; iexists fs; isplitr
  · ipureintro; exact hfs
  · iexact H
/-- what it has written is its arrival's. -/
theorem pay_recv (j : Fin 14) {fs : Buf (Elt F) ((srcM j).view.loc (c : Thread nD τ))}
    {fd : Buf (Elt F) ((dstM j).view.loc (peer c j : Thread nD τ))} (hfs : (srcM j).view.read (Elt F) fs = I.sent c j) :
    ((dstM j).view.loc (peer c j : Thread nD τ) ↦[(dstM j).view.set]{fullShare}
        ((dstM j).view.write (Elt F) fd ((srcM j).view.read (Elt F) fs) Finset.univ) : sProp 𝕄)
      ⊢ (ringRd I).payload (recvCell (peer c j) j) 0 false := by
  rw [payload_recv]; unfold recvPay owns
  iintro H; iexists ((dstM j).view.write (Elt F) fd ((srcM j).view.read (Elt F) fs) Finset.univ); isplitr
  · ipureintro; rw [from_peer]; exact (View.read_write_univ (v := (dstM j).view) fd _).trans hfs
  · iexact H

/-- Starting transfer `j`, the next one. -/
theorem wp_send {k : PUnit → TP α} (j : Fin 14) (S R : Finset (Fin 14)) (hS : j ∉ S) :
    iprop(Comm I c j.val S R ∗ owns (c : Thread nD τ) (srcM j) (qsh j) (I.sent c j))
      ⊢ iprop((Comm I c (j.val + 1) S R -∗ WP c (k ⟨⟩) Q) -∗ WP c (sendOp c j >>= k) Q) := by
  unfold Comm sendOp
  simp only [Prog.lift, Prog.bind_op, Prog.bind_ret]
  iintro ⟨⟨⟨%K, #HK⟩, #Hlev, HS, HR, ⟨%W, HO⟩⟩, Hsrc⟩ Hk
  ihave HS' := (bigSep_univ_update (Φ := sendSt c j.val S) (Ψ := sendSt c (j.val + 1) S) j (fun i hi => by
    have : i.val ≠ j.val := fun e => hi (Fin.ext e)
    unfold sendSt
    by_cases h : i ∈ S
    · rw [if_pos h, if_pos h]
    · rw [if_neg h, if_neg h]
      by_cases h2 : i.val < j.val
      · rw [if_pos h2, if_pos (by omega)]
      · rw [if_neg h2, if_neg (by omega)])) $$ HS
  icases HS' with ⟨Hj, HSk⟩
  ihave Hj' := (Entails.of_eq (show sendSt c j.val S j = iprop(dutyTok ER (sendCell c j) 0 false ∗ dutyTok ER (recvCell (peer c j) j) 0 false
    ∗ (∃ Y, owns (peer c j : Thread nD τ) (dstM j) fullShare Y) ∗ atPos ER (sendCell c j) 0 ∅ 0) from by
      unfold sendSt; rw [if_neg hS, if_neg (by omega)])) $$ Hj
  icases Hj' with ⟨Ht1, Ht2, ⟨%Y, Hdst⟩, Hat⟩
  unfold owns
  icases Hsrc with ⟨%fs, %hfs, Hsrc⟩
  icases Hdst with ⟨%fd, %hfd, Hdst⟩
  iapply (Rounds.wp_send_pointsTo 𝒱₀ ER (ringRd I) (c : Thread nD τ) none (c' := (peer c j : Thread nD τ)) (src := srcM j) (dst := dstM j) (sS := .dma (sendSem j)) (sem := .dma (recvSem j)) (κ₁ := K (c, .inr (.inl j))) (κ₂ := K (peer c j, .inr (.inr j)))
    (r₁ := 0) (r₂ := 0) (d₁ := false) (d₂ := false) (fs := fs) (fd := fd) (q := qsh j)
    (by rw [duties_send]; exact Finset.mem_singleton_self _) (by rw [duties_recv]; exact Finset.mem_singleton_self _)
    () () N (credit_dst j) (amount_send I c j false) (amount_recv I (peer c j) j false) (D c (j.val + 1)) (D_peel c j) (W := W)
    (pay_send I c j hfs) (pay_recv I c j hfs)) $$ [Hsrc Hdst HO Ht1 Ht2]
  · isplitr; · iapply (inv_at I K (c, .inr (.inl j))); iexact HK
    isplitr; · iapply (inv_at I K (peer c j, .inr (.inr j))); iexact HK
    isplitl [Hsrc]; · iexact Hsrc
    isplitl [Hdst]; · iexact Hdst
    isplitl [HO]; · iexact HO
    isplitl [Ht1]; · iexact Ht1
    isplitr; · iapply (reached_at I K (c, .inr (.inl j))); iexact HK
    isplitl [Ht2]; · iexact Ht2
    iapply (reached_at I K (peer c j, .inr (.inr j))); iexact HK
  iintro ⟨Hc, HO⟩
  iapply Hk
  isplitr; · iexists K; iexact HK
  isplitr; · iexact Hlev
  isplitl [HSk Hc Hat]
  · iapply HSk
    iapply (Entails.of_eq (show iprop(cred (tallyAt (sendCell c j) () N) ∗ atPos ER (sendCell c j) 0 ∅ 0) = sendSt c (j.val + 1) S j from by
      unfold sendSt; rw [if_neg hS, if_pos (by omega)]))
    isplitl [Hc]; · iexact Hc
    iexact Hat
  isplitl [HR]; · iexact HR
  iexists W; iexact HO

/-- Waiting for the arrival of transfer `j`, once this device has started its own. -/
theorem wp_waitR {k : PUnit → TP α} (j : Fin 14) (n : ℕ) (S R : Finset (Fin 14)) (hR : j ∉ R) (hn : j.val < n) :
    Comm I c n S R
      ⊢ iprop((Comm I c n S (insert j R) -∗ owns (c : Thread nD τ) (dstM j) fullShare (I.sent (from_ c j) j) -∗ WP c (k ⟨⟩) Q)
        -∗ WP c (waitR j >>= k) Q) := by
  unfold Comm waitR
  simp only [Prog.lift, Prog.bind_op, Prog.bind_ret]
  iintro ⟨⟨%K, #HK⟩, #Hlev, HS, HR, ⟨%W, HO⟩⟩ Hk
  ihave HR' := (bigSep_univ_update (Φ := recvSt c R) (Ψ := recvSt c (insert j R)) j (fun i hi => by
    unfold recvSt
    by_cases h : i ∈ R
    · rw [if_pos h, if_pos (Finset.mem_insert_of_mem h)]
    · rw [if_neg h, if_neg (by simp [hi, h])])) $$ HR
  icases HR' with ⟨Hj, HRk⟩
  ihave Hj' := (Entails.of_eq (show recvSt c R j = iprop(cred (tallyAt (recvCell c j) () N) ∗ atPos ER (recvCell c j) 0 ∅ 0) from by
      unfold recvSt; rw [if_neg hR])) $$ Hj
  icases Hj' with ⟨Hc, Hat⟩
  iapply (Rounds.wp_wait_rest_token 𝒱₀ ER (ringRd I) (c : Thread nD τ) none (κ := K (c, .inr (.inr j)))
      (wpE_waitDma2_eq 𝒱₀ (c : Thread nD τ) none Set.univ) (Set.mem_univ _) () (O := D c n) (W := W) (R := 0) (m := 0) (T := ∅)
      (by rw [Nat.zero_add, expect_recv])) $$ [Hc HO Hat]
  · isplitr; · iapply (inv_at I K (c, .inr (.inr j))); iexact HK
    isplitl [Hc]; · iexact Hc
    isplitl [HO]; · iexact HO
    isplitr
    · iapply (mayWait_D c (.dma (recvSem j)) n (fun i hi => by rw [lv_recv]; omega)); iexact Hlev
    iexact Hat
  iintro ⟨HO, Hat, -, Hpay⟩
  ihave Hp := (Entails.of_eq (rest_recv I c j)) $$ Hpay
  imod (Rounds.cell_close ER (ringRd I) (Set.mem_univ (K (c, .inr (.inr j)))) (fun h => h) (R := 0 + 1) (duties_later I (recvCell c j))) $$ [Hat] with Hz
  · isplitr; · iapply (inv_at I K (c, .inr (.inr j))); iexact HK
    iexact Hat
  iapply Hk $$ [HS HRk HO Hz] [Hp]
  · isplitr; · iexists K; iexact HK
    isplitr; · iexact Hlev
    isplitl [HS]; · iexact HS
    isplitl [HRk Hz]
    · iapply HRk
      iapply (Entails.of_eq (show semVal (recvCell c j) 0 = recvSt c (insert j R) j from by
        unfold recvSt; rw [if_pos (Finset.mem_insert_self _ _)]))
      iexact Hz
    iexists _; iexact HO
  unfold recvPay; iexact Hp

/-- Waiting for the departure of this device's transfer `j`. -/
theorem wp_waitS {k : PUnit → TP α} (j : Fin 14) (n : ℕ) (S R : Finset (Fin 14)) (hS : j ∉ S) (hn : j.val < n) :
    Comm I c n S R
      ⊢ iprop((Comm I c n (insert j S) R -∗ owns (c : Thread nD τ) (srcM j) (qsh j) (I.sent c j) -∗ WP c (k ⟨⟩) Q)
        -∗ WP c (waitS j >>= k) Q) := by
  unfold Comm waitS
  simp only [Prog.lift, Prog.bind_op, Prog.bind_ret]
  iintro ⟨⟨%K, #HK⟩, #Hlev, HS, HR, ⟨%W, HO⟩⟩ Hk
  ihave HS' := (bigSep_univ_update (Φ := sendSt c n S) (Ψ := sendSt c n (insert j S)) j (fun i hi => by
    unfold sendSt
    by_cases h : i ∈ S
    · rw [if_pos h, if_pos (Finset.mem_insert_of_mem h)]
    · rw [if_neg h, if_neg (by simp [hi, h])])) $$ HS
  icases HS' with ⟨Hj, HSk⟩
  ihave Hj' := (Entails.of_eq (show sendSt c n S j = iprop(cred (tallyAt (sendCell c j) () N) ∗ atPos ER (sendCell c j) 0 ∅ 0) from by
      unfold sendSt; rw [if_neg hS, if_pos hn])) $$ Hj
  icases Hj' with ⟨Hc, Hat⟩
  iapply (Rounds.wp_wait_rest_token 𝒱₀ ER (ringRd I) (c : Thread nD τ) none (κ := K (c, .inr (.inl j)))
      (wpE_waitDma2_eq 𝒱₀ (c : Thread nD τ) none Set.univ) (Set.mem_univ _) () (O := D c n) (W := W) (R := 0) (m := 0) (T := ∅)
      (by rw [Nat.zero_add, expect_send])) $$ [Hc HO Hat]
  · isplitr; · iapply (inv_at I K (c, .inr (.inl j))); iexact HK
    isplitl [Hc]; · iapply (Entails.of_eq (by rw [credit_wdst j])); iexact Hc
    isplitl [HO]; · iexact HO
    isplitr
    · iapply (mayWait_D c (.dma (sendSem j)) n (fun i hi => by rw [lv_send]; omega)); iexact Hlev
    iexact Hat
  iintro ⟨HO, Hat, -, Hpay⟩
  ihave Hp := (Entails.of_eq (rest_send I c j)) $$ Hpay
  imod (Rounds.cell_close ER (ringRd I) (Set.mem_univ (K (c, .inr (.inl j)))) (fun h => h) (R := 0 + 1) (duties_later I (sendCell c j))) $$ [Hat] with Hz
  · isplitr; · iapply (inv_at I K (c, .inr (.inl j))); iexact HK
    iexact Hat
  iapply Hk $$ [HSk HR HO Hz] [Hp]
  · isplitr; · iexists K; iexact HK
    isplitr; · iexact Hlev
    isplitl [HSk Hz]
    · iapply HSk
      iapply (Entails.of_eq (show semVal (sendCell c j) 0 = sendSt c n (insert j S) j from by
        unfold sendSt; rw [if_pos (Finset.mem_insert_self _ _)]))
      iexact Hz
    isplitl [HR]; · iexact HR
    iexists _; iexact HO
  unfold sendPay; iexact Hp

end Cert.KernelIdeal.Gen.Mine
-- ==== Proof.Buffers.lean ====
module

public import proofs.«01_k».proof.Proof.Protocol

/-! # Reads and writes of the buffers, as rules over owned memory -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ
local notation "TP" => Prog (TpuEff nD τ sig (Elt F) Λ₀ Proc.tc)

variable (c : Dev nD) {α : Type} {Q : α → SP F}

/-- Reading a rectangle of an owned block. -/
theorem wp_ld {s : Shape} {e : EltTy} {m : Memref sig .tc .vmem s e} {r : Rect s} {hl : m.view.LoadsAt r.toLoadRect}
    {k : Vec F r.shape e → TP α} {q : PosShare TreeShare} {X : Vec F s e} :
    (owns (c : Thread nD τ) m q X : sProp 𝕄)
      ⊢ iprop((owns (c : Thread nD τ) m q X -∗ WP c (k (fun j => X (r.emb j))) Q)
        -∗ WP c (Prog.lift (.load m r.toLoadRect hl) >>= k) Q) := by
  simp only [Prog.lift, Prog.bind_op, Prog.bind_ret]
  unfold owns
  iintro ⟨%f, %hf, H⟩ Hk
  subst hf
  iapply (wp_load_rect 𝒱₀ (c : Thread nD τ) none Set.univ (m := m) (r := r)
    (S := m.view.set) (m.view.set_slice_subset r)) $$ H
  iintro H
  iapply Hk
  iexists f
  isplitr
  · ipureintro; rfl
  · iexact H

/-- Replacing a rectangle of an owned block. -/
theorem wp_st {s : Shape} {e : EltTy} {m : Memref sig .tc .vmem s e} {r : Rect s} {v : r.shape.Idx → Elt F e}
    {hx : (m.access r).Stores Finset.univ} {hm : Finset.univ = Finset.univ ∨ ∀ a, r.stride a = 1}
    {k : PUnit → TP α} {X : Vec F s e} :
    (owns (c : Thread nD τ) m fullShare X : sProp 𝕄)
      ⊢ iprop((∀ Y : Vec F s e, ⌜(∀ j, Y (r.emb j) = v j) ∧ ∀ i, i ∉ r.set → Y i = X i⌝ -∗ owns (c : Thread nD τ) m fullShare Y -∗ WP c (k ⟨⟩) Q)
        -∗ WP c (Prog.lift (.store m r v Finset.univ hx hm) >>= k) Q) := by
  simp only [Prog.lift, Prog.bind_op, Prog.bind_ret]
  unfold owns
  iintro ⟨%f, %hf, H⟩ Hk
  subst hf
  iapply (wp_store 𝒱₀ (c : Thread nD τ) none Set.univ (m := m) (r := r) (w := v) (Mk := Finset.univ)
    (S := m.view.set) (m.view.set_slice_subset r)) $$ H
  iintro H
  iapply Hk $$ %(m.view.read (Elt F) ((m.access r).write (Elt F) f v Finset.univ)) %_ [H]
  · exact ⟨fun j => View.read_slice_write_emb r f v (Finset.mem_univ j),
      fun i hi => View.read_slice_write_of_not_mem r f v Finset.univ (by rwa [Rect.map_emb_univ])⟩
  · iexists _
    isplitr
    · ipureintro; rfl
    · iexact H

/-- Reading slot `h` of a buffer of four, -/
theorem wp_ld4 {b : Memref sig .tc .vmem S4x2x128x512 .bf16} {h : Fin 4} {k : Vec F S1x2x128x512 .bf16 → TP α}
    {q : PosShare TreeShare} {X : Vec F S2x128x512 .bf16} :
    (owns (c : Thread nD τ) (sl4 b h) q X : sProp 𝕄)
      ⊢ iprop((owns (c : Thread nD τ) (sl4 b h) q X -∗ WP c (k (unsq X)) Q) -∗ WP c (ld4 b h >>= k) Q) := by
  unfold ld4
  simp only [Prog.lift, Prog.bind_op, Prog.bind_ret]
  unfold owns
  iintro ⟨%f, %hf, H⟩ Hk
  have hf' : unsq X = (b.access (r4 h)).read (Elt F) f := by
    rw [← hf]; exact unsq_sq ((b.access (r4 h)).read (Elt F) f)
  rw [hf']
  iapply (wp_load_rect 𝒱₀ (c : Thread nD τ) none Set.univ (m := b) (r := r4 h)
    (S := (sl4 b h).view.set) (by rw [show (sl4 b h).view.set = (b.access (r4 h)).set from View.set_reshape _ _])) $$ H
  iintro H
  iapply Hk
  iexists f
  isplitr
  · ipureintro; exact hf
  · iexact H
/-- of three; -/
theorem wp_ld3 {b : Memref sig .tc .vmem S3x2x128x512 .bf16} {h : Fin 3} {k : Vec F S1x2x128x512 .bf16 → TP α}
    {q : PosShare TreeShare} {X : Vec F S2x128x512 .bf16} :
    (owns (c : Thread nD τ) (sl3 b h) q X : sProp 𝕄)
      ⊢ iprop((owns (c : Thread nD τ) (sl3 b h) q X -∗ WP c (k (unsq X)) Q) -∗ WP c (ld3 b h >>= k) Q) := by
  unfold ld3
  simp only [Prog.lift, Prog.bind_op, Prog.bind_ret]
  unfold owns
  iintro ⟨%f, %hf, H⟩ Hk
  have hf' : unsq X = (b.access (r3 h)).read (Elt F) f := by
    rw [← hf]; exact unsq_sq ((b.access (r3 h)).read (Elt F) f)
  rw [hf']
  iapply (wp_load_rect 𝒱₀ (c : Thread nD τ) none Set.univ (m := b) (r := r3 h)
    (S := (sl3 b h).view.set) (by rw [show (sl3 b h).view.set = (b.access (r3 h)).set from View.set_reshape _ _])) $$ H
  iintro H
  iapply Hk
  iexists f
  isplitr
  · ipureintro; exact hf
  · iexact H

/-- replacing slot `h` of a buffer of four, -/
theorem wp_st4 {b : Memref sig .tc .vmem S4x2x128x512 .bf16} {hb : b.IsWhole} {h : Fin 4} {v : FVec F S1x2x128x512 .bf16}
    {k : PUnit → TP α} {X : Vec F S2x128x512 .bf16} :
    (owns (c : Thread nD τ) (sl4 b h) fullShare X : sProp 𝕄)
      ⊢ iprop((owns (c : Thread nD τ) (sl4 b h) fullShare (sq v) -∗ WP c (k ⟨⟩) Q) -∗ WP c (st4 b hb h v >>= k) Q) := by
  unfold st4
  simp only [Prog.lift, Prog.bind_op, Prog.bind_ret]
  unfold owns
  iintro ⟨%f, %hf, H⟩ Hk
  iapply (wp_store 𝒱₀ (c : Thread nD τ) none Set.univ (m := b) (r := r4 h) (w := v) (Mk := Finset.univ)
    (S := (sl4 b h).view.set) (by rw [show (sl4 b h).view.set = (b.access (r4 h)).set from View.set_reshape _ _]; rfl)) $$ H
  iintro H
  iapply Hk
  iexists _
  isplitr
  · ipureintro
    show sq ((b.access (r4 h)).read (Elt F) ((b.access (r4 h)).write (Elt F) f v Finset.univ)) = _
    rw [View.read_write_univ]
  · iexact H
/-- of three. -/
theorem wp_st3 {b : Memref sig .tc .vmem S3x2x128x512 .bf16} {hb : b.IsWhole} {h : Fin 3} {v : FVec F S1x2x128x512 .bf16}
    {k : PUnit → TP α} {X : Vec F S2x128x512 .bf16} :
    (owns (c : Thread nD τ) (sl3 b h) fullShare X : sProp 𝕄)
      ⊢ iprop((owns (c : Thread nD τ) (sl3 b h) fullShare (sq v) -∗ WP c (k ⟨⟩) Q) -∗ WP c (st3 b hb h v >>= k) Q) := by
  unfold st3
  simp only [Prog.lift, Prog.bind_op, Prog.bind_ret]
  unfold owns
  iintro ⟨%f, %hf, H⟩ Hk
  iapply (wp_store 𝒱₀ (c : Thread nD τ) none Set.univ (m := b) (r := r3 h) (w := v) (Mk := Finset.univ)
    (S := (sl3 b h).view.set) (by rw [show (sl3 b h).view.set = (b.access (r3 h)).set from View.set_reshape _ _]; rfl)) $$ H
  iintro H
  iapply Hk
  iexists _
  isplitr
  · ipureintro
    show sq ((b.access (r3 h)).read (Elt F) ((b.access (r3 h)).write (Elt F) f v Finset.univ)) = _
    rw [View.read_write_univ]
  · iexact H

end Cert.KernelIdeal.Gen.Mine
-- ==== Proof.Barrier.lean ====
module

public import proofs.«01_k».proof.Proof.Buffers

/-! # The barrier at the start -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ
local notation "TP" => Prog (TpuEff nD τ sig (Elt F) Λ₀ Proc.tc)

variable (I : Inp F) (c : Dev nD)

/-- The buffers that device `c` receives into. -/
def slots : SP F := bigSep Finset.univ fun j : Fin 14 => iprop(∃ Y, owns (c : Thread nD τ) (dstM j) fullShare Y)

/-- What device `c`'s transfers hold before the barrier, the buffers they write apart. -/
def preSend (j : Fin 14) : SP F :=
  iprop(dutyTok ER (sendCell c j) 0 false ∗ dutyTok ER (recvCell (peer c j) j) 0 false ∗ atPos ER (sendCell c j) 0 ∅ 0)

/-- Device `c` before the barrier. -/
def PreComm : SP F :=
  iprop((∃ K, records I K) ∗ levAts L lv ∗ (dutyTok ER (barCell (prv c)) 0 true ∗ dutyTok ER (barCell (nxt c)) 0 false
      ∗ cred (tallyAt (barCell c) () 2) ∗ atPos ER (barCell c) 0 ∅ 0)
    ∗ (bigSep Finset.univ (preSend c)) ∗ (bigSep Finset.univ (recvSt c ∅)) ∗ ∃ W, owes (c : Thread nD τ) (O₀ c) W)

/-- The buffers of one direction, handed to the neighbour on the other side. -/
theorem barPay_intro (d : Bool) (n : Dev nD) (hn : ∀ j, toRight j = d → peer n j = c) :
    (bigSep (Finset.univ.filter fun j : Fin 14 => toRight j = d) fun j => iprop(∃ Y, owns (c : Thread nD τ) (dstM j) fullShare Y) : SP F)
      ⊢ barPay n d := by
  unfold barPay
  exact Entails.of_eq (bigSep_congr fun j hj => by rw [hn j (Finset.mem_filter.mp hj).2])

theorem slots_split : (slots c : SP F) ⊢ iprop(barPay (prv c) true ∗ barPay (nxt c) false) := by
  have h : (slots c : SP F) = iprop((bigSep (Finset.univ.filter fun j : Fin 14 => toRight j = true) fun j => iprop(∃ Y, owns (c : Thread nD τ) (dstM j) fullShare Y))
      ∗ (bigSep (Finset.univ.filter fun j : Fin 14 => ¬ toRight j = true) fun j => iprop(∃ Y, owns (c : Thread nD τ) (dstM j) fullShare Y))) :=
    bigSep_filter_split _ _
  have hf : (Finset.univ.filter fun j : Fin 14 => ¬ toRight j = true) = Finset.univ.filter fun j : Fin 14 => toRight j = false := by decide
  rw [h, hf]
  iintro ⟨Ht, Hf⟩
  isplitl [Ht]
  · iapply (barPay_intro c true (prv c) (fun j hj => by unfold peer; rw [hj]; exact nxt_prv c)); iexact Ht
  · iapply (barPay_intro c false (nxt c) (fun j hj => by unfold peer; rw [hj]; exact prv_nxt c)); iexact Hf

theorem sendSt_intro : (iprop(bigSep Finset.univ (preSend c) ∗ barPay c false ∗ barPay c true) : SP F) ⊢ bigSep Finset.univ (sendSt c 0 ∅) := by
  have h : (bigSep Finset.univ fun j : Fin 14 => (iprop(∃ Y, owns (peer c j : Thread nD τ) (dstM j) fullShare Y) : SP F)) = iprop(barPay c true ∗ barPay c false) := by
    have hf : (Finset.univ.filter fun j : Fin 14 => ¬ toRight j = true) = Finset.univ.filter fun j : Fin 14 => toRight j = false := by decide
    rw [bigSep_filter_split (Finset.univ : Finset (Fin 14)) (fun j => toRight j = true), hf]; rfl
  have h2 : (iprop(bigSep Finset.univ (preSend c) ∗ bigSep Finset.univ fun j : Fin 14 => (iprop(∃ Y, owns (peer c j : Thread nD τ) (dstM j) fullShare Y))) : SP F)
      ⊢ bigSep Finset.univ (sendSt c 0 ∅) := by
    have key (j : Fin 14) : (iprop(preSend c j ∗ ∃ Y, owns (peer c j : Thread nD τ) (dstM j) fullShare Y) : SP F) ⊢ sendSt c 0 ∅ j := by
      unfold preSend sendSt
      rw [if_neg (Finset.notMem_empty j), if_neg (Nat.not_lt_zero _)]
      iintro ⟨⟨H1, H2, H3⟩, H4⟩
      isplitl [H1]; · iexact H1
      isplitl [H2]; · iexact H2
      isplitl [H4]; · iexact H4
      iexact H3
    exact (Entails.of_eq (bigSep_sep _ _ _).symm).trans (bigSep_mono fun j _ => key j)
  iintro ⟨H, Hf, Ht⟩
  iapply h2
  isplitl [H]; · iexact H
  rw [h]
  isplitl [Ht]; · iexact Ht
  iexact Hf

variable {α : Type} {Q : α → SP F}

theorem lv_bar : lv (barCell c) () = 1 := rfl

/-- The barrier: the device's own buffers go to its neighbours, theirs come to it. -/
theorem wp_barrier {k : PUnit → TP α} :
    iprop(PreComm I c ∗ slots c)
      ⊢ iprop((Comm I c 0 ∅ ∅ -∗ semVal (barCell c) 0 -∗ WP c (k ⟨⟩) Q) -∗ WP c (barrierP c >>= k) Q) := by
  unfold PreComm barrierP
  simp only [semSignalWord, semWaitWord, Prog.lift, Prog.bind_op, Prog.bind_ret, Prog.pure_eq_ret]
  iintro ⟨⟨⟨%K, #HK⟩, #Hlev, ⟨HtP, HtN, Hc, Hat⟩, HS, HR, ⟨%W, HO⟩⟩, Hsl⟩ Hk
  ihave Hsl' := (slots_split c) $$ Hsl
  icases Hsl' with ⟨HpP, HpN⟩
  iapply (Rounds.wp_signal 𝒱₀ ER (ringRd I) (c : Thread nD τ) none (dst := (prv c : Thread nD τ)) (κ := K (prv c, .inl ()))
      (d := true) (by rw [duties_bar]; exact Finset.mem_univ _) ((amount_bar I (prv c) true).trans (by decide)) () (O₁ c) rfl)
    $$ [HO HtP HpP]
  · isplitr; · iapply (inv_at I K (prv c, .inl ())); iexact HK
    isplitl [HO]; · iexact HO
    isplitl [HtP]; · iexact HtP
    isplitl [HpP]; · rw [payload_bar]; iexact HpP
    iapply (reached_at I K (prv c, .inl ())); iexact HK
  iintro HO
  iapply (Rounds.wp_signal 𝒱₀ ER (ringRd I) (c : Thread nD τ) none (dst := (nxt c : Thread nD τ)) (κ := K (nxt c, .inl ()))
      (d := false) (by rw [duties_bar]; exact Finset.mem_univ _) ((amount_bar I (nxt c) false).trans (by decide)) () (D c 0) rfl)
    $$ [HO HtN HpN]
  · isplitr; · iapply (inv_at I K (nxt c, .inl ())); iexact HK
    isplitl [HO]; · iexact HO
    isplitl [HtN]; · iexact HtN
    isplitl [HpN]; · rw [payload_bar]; iexact HpN
    iapply (reached_at I K (nxt c, .inl ())); iexact HK
  iintro HO
  iapply (Rounds.wp_wait_rest_token 𝒱₀ ER (ringRd I) (c : Thread nD τ) none (κ := K (c, .inl ()))
      (wpE_semWait_eq 𝒱₀ (c : Thread nD τ) none Set.univ) (Set.mem_univ _) () (O := D c 0) (W := W) (R := 0) (m := 0) (T := ∅)
      (by rw [Nat.zero_add, expect_bar]; decide)) $$ [Hc HO Hat]
  · isplitr; · iapply (inv_at I K (c, .inl ())); iexact HK
    isplitl [Hc]; · iexact Hc
    isplitl [HO]; · iexact HO
    isplitr
    · iapply (mayWait_D c (.reg barS) 0 (fun i hi => by rw [lv_bar]; omega)); iexact Hlev
    iexact Hat
  iintro ⟨HO, Hat, -, Hpay⟩
  ihave Hp := (Entails.of_eq (rest_bar I c)) $$ Hpay
  imod (Rounds.cell_close ER (ringRd I) (Set.mem_univ (K (c, .inl ()))) (fun h => h) (R := 0 + 1) (duties_later I (barCell c))) $$ [Hat] with Hz
  · isplitr; · iapply (inv_at I K (c, .inl ())); iexact HK
    iexact Hat
  iapply Hk $$ [HS HR HO Hp] [Hz]
  · unfold Comm
    isplitr; · iexists K; iexact HK
    isplitr; · iexact Hlev
    isplitl [HS Hp]
    · iapply (sendSt_intro c)
      isplitl [HS]; · iexact HS
      iexact Hp
    isplitl [HR]; · iexact HR
    iexists _; iexact HO
  iexact Hz

end Cert.KernelIdeal.Gen.Mine
-- ==== Proof.Gather.lean ====
module

public import proofs.«01_k».proof.Proof.Barrier

/-! # The first phase: rounding, and every block's projections -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ
local notation "TP" => Prog (TpuEff nD τ sig (Elt F) Λ₀ Proc.tc)

variable (I : Inp F) (c : Dev nD) {α : Type} {Q : α → SP F}

/-! ## Whole blocks -/

theorem unit_val {s : Shape} {off size : Fin s.rank → Nat} (inb : ∀ a, off a + size a ≤ s.size a) (j : (Rect.unit off size inb).shape.Idx) (a : Fin s.rank) :
    ((Rect.unit off size inb).emb j a).val = off a + (j a).val := by
  rw [Rect.emb_apply]; show off a + 1 * _ = _; rw [Nat.one_mul]

theorem emb_rX (j : rX.shape.Idx) : rX.emb j = j := by
  funext a; apply Fin.ext; rw [unit_val]; fin_cases a <;> exact Nat.zero_add _
theorem emb_rW (j : rW.shape.Idx) : rW.emb j = j := by
  funext a; apply Fin.ext; rw [unit_val]; fin_cases a <;> exact Nat.zero_add _
abbrev rQKV : Rect S512x1536 := Rect.unit (s := S512x1536) ![0, 0] S512x1536.size inb_S512x1536_S512x1536_0_0
theorem emb_rQKV (j : rQKV.shape.Idx) : rQKV.emb j = j := by
  funext a; apply Fin.ext; rw [unit_val]; fin_cases a <;> exact Nat.zero_add _

/-- Reading the whole of a block of `x`'s shape, -/
theorem wp_ldX {e : EltTy} {m : Memref sig .tc .vmem S2x128x512 e} {hl : m.view.LoadsAt rX.toLoadRect}
    {k : Vec F S2x128x512 e → TP α} {q : PosShare TreeShare} {X : Vec F S2x128x512 e} :
    (owns (c : Thread nD τ) m q X : SP F)
      ⊢ iprop((owns (c : Thread nD τ) m q X -∗ WP c (k X) Q)
        -∗ WP c (Prog.lift (.load m rX.toLoadRect hl) >>= k) Q) := by
  have h := wp_ld (F := F) c (Q := Q) (m := m) (r := rX) (hl := hl) (k := k) (q := q) (X := X)
  rwa [show (fun j => X (rX.emb j)) = X from funext fun j => congrArg X (emb_rX j)] at h
/-- writing it; -/
theorem wp_stX {e : EltTy} {m : Memref sig .tc .vmem S2x128x512 e} {v : Vec F S2x128x512 e}
    {hx : (m.access rX).Stores Finset.univ} {hm : Finset.univ = Finset.univ ∨ ∀ a, rX.stride a = 1} {k : PUnit → TP α} {X : Vec F S2x128x512 e} :
    (owns (c : Thread nD τ) m fullShare X : SP F)
      ⊢ iprop((owns (c : Thread nD τ) m fullShare v -∗ WP c (k ⟨⟩) Q)
        -∗ WP c (Prog.lift (.store m rX v Finset.univ hx hm) >>= k) Q) := by
  iintro H Hk
  iapply (wp_st (F := F) c (Q := Q) (m := m) (r := rX) (v := v) (hx := hx) (hm := hm) (k := k) (X := X)) $$ H
  iintro %Y %hY H
  obtain rfl : Y = v := funext fun j => by have := hY.1 j; rwa [emb_rX] at this
  iapply Hk; iexact H
/-- the same for a square weight. -/
theorem wp_ldW {e : EltTy} {m : Memref sig .tc .vmem S512x512 e} {hl : m.view.LoadsAt rW.toLoadRect}
    {k : Vec F S512x512 e → TP α} {q : PosShare TreeShare} {X : Vec F S512x512 e} :
    (owns (c : Thread nD τ) m q X : SP F)
      ⊢ iprop((owns (c : Thread nD τ) m q X -∗ WP c (k X) Q)
        -∗ WP c (Prog.lift (.load m rW.toLoadRect hl) >>= k) Q) := by
  have h := wp_ld (F := F) c (Q := Q) (m := m) (r := rW) (hl := hl) (k := k) (q := q) (X := X)
  rwa [show (fun j => X (rW.emb j)) = X from funext fun j => congrArg X (emb_rW j)] at h
theorem wp_stW {e : EltTy} {m : Memref sig .tc .vmem S512x512 e} {v : Vec F S512x512 e}
    {hx : (m.access rW).Stores Finset.univ} {hm : Finset.univ = Finset.univ ∨ ∀ a, rW.stride a = 1} {k : PUnit → TP α} {X : Vec F S512x512 e} :
    (owns (c : Thread nD τ) m fullShare X : SP F)
      ⊢ iprop((owns (c : Thread nD τ) m fullShare v -∗ WP c (k ⟨⟩) Q)
        -∗ WP c (Prog.lift (.store m rW v Finset.univ hx hm) >>= k) Q) := by
  iintro H Hk
  iapply (wp_st (F := F) c (Q := Q) (m := m) (r := rW) (v := v) (hx := hx) (hm := hm) (k := k) (X := X)) $$ H
  iintro %Y %hY H
  obtain rfl : Y = v := funext fun j => by have := hY.1 j; rwa [emb_rW] at this
  iapply Hk; iexact H

/-! ## Rounding -/

/-- Three writes side by side. -/
theorem wCat_of {A B C : Vec F S512x512 .bf16} {Y₁ Y₂ Y₃ : Vec F S512x1536 .bf16}
    (h₁ : ∀ j, Y₁ (rW1.emb j) = A j)
    (h₂ : (∀ j, Y₂ (rW2.emb j) = B j) ∧ ∀ i, i ∉ rW2.set → Y₂ i = Y₁ i)
    (h₃ : (∀ j, Y₃ (rW3.emb j) = C j) ∧ ∀ i, i ∉ rW3.set → Y₃ i = Y₂ i) : Y₃ = wCat A B C := by
  funext i
  obtain ⟨a, b, rfl⟩ : ∃ a b, i = ix2 a b := ⟨_, _, eq_ix2 i⟩
  have hb : b.val < 1536 := b.isLt
  have n2 (h : b.val < 512 ∨ 1024 ≤ b.val) : ix2 a b ∉ rW2.set := by
    rw [Rect.mem_set_unit]; intro hh; have := hh 1
    change 512 ≤ b.val ∧ b.val < 512 + 512 at this; omega
  have n3 (h : b.val < 1024) : ix2 a b ∉ rW3.set := by
    rw [Rect.mem_set_unit]; intro hh; have := hh 1
    change 1024 ≤ b.val ∧ b.val < 1024 + 512 at this; omega
  unfold wCat
  show _ = if h : b.val < 512 then _ else _
  by_cases hlo : b.val < 512
  · rw [dif_pos hlo]
    have e : ix2 a b = rW1.emb (ix2 a ⟨b.val, hlo⟩) := by
      funext x; apply Fin.ext; rw [unit_val]; fin_cases x
      · exact (Nat.zero_add _).symm
      · exact (Nat.zero_add _).symm
    exact (h₃.2 _ (n3 (by omega))).trans ((h₂.2 _ (n2 (by omega))).trans ((congrArg Y₁ e).trans (h₁ _)))
  · rw [dif_neg hlo]
    show _ = if h : b.val < 1024 then _ else _
    by_cases hmid : b.val < 1024
    · rw [dif_pos hmid]
      have e : ix2 a b = rW2.emb (ix2 a ⟨b.val - 512, by omega⟩) := by
        funext x; apply Fin.ext; rw [unit_val]; fin_cases x
        · exact (Nat.zero_add _).symm
        · show b.val = 512 + (b.val - 512); omega
      exact (h₃.2 _ (n3 hmid)).trans ((congrArg Y₂ e).trans (h₂.1 _))
    · rw [dif_neg hmid]
      have e : ix2 a b = rW3.emb (ix2 a ⟨b.val - 1024, by omega⟩) := by
        funext x; apply Fin.ext; rw [unit_val]; fin_cases x
        · exact (Nat.zero_add _).symm
        · show b.val = 1024 + (b.val - 1024); omega
      exact (congrArg Y₃ e).trans (h₃.1 _)

/-- The five operands as the device holds them. -/
def args (a0 : Memref sig .tc .vmem S2x128x512 .f32) (a1 a2 a3 a4 : Memref sig .tc .vmem S512x512 .f32) : SP F :=
  iprop(owns (c : Thread nD τ) a0 fullShare (I.x c) ∗ owns (c : Thread nD τ) a1 fullShare (I.wq c) ∗ owns (c : Thread nD τ) a2 fullShare (I.wo c)
    ∗ owns (c : Thread nD τ) a3 fullShare (I.wk c) ∗ owns (c : Thread nD τ) a4 fullShare (I.wv c))

theorem wp_round (a0 : Memref sig .tc .vmem S2x128x512 .f32) (a1 a2 a3 a4 : Memref sig .tc .vmem S512x512 .f32) {k : PUnit → TP α} :
    iprop(args I c a0 a1 a2 a3 a4 ∗ (∃ X, owns (c : Thread nD τ) x16 fullShare X) ∗ (∃ X, owns (c : Thread nD τ) wqkv fullShare X)
        ∗ (∃ X, owns (c : Thread nD τ) wo16 fullShare X))
      ⊢ iprop((args I c a0 a1 a2 a3 a4 -∗ owns (c : Thread nD τ) x16 fullShare (I.xb c) -∗ owns (c : Thread nD τ) wqkv fullShare (I.wcat c)
            -∗ owns (c : Thread nD τ) wo16 fullShare (I.wob c) -∗ WP c (k ⟨⟩) Q)
        -∗ WP c (roundP a0 a1 a2 a3 a4 >>= k) Q) := by
  unfold args roundP
  simp only [bind_assoc]
  iintro ⟨⟨H0, H1, H2, H3, H4⟩, ⟨%x, Hx⟩, ⟨%w, Hw⟩, ⟨%o, Ho⟩⟩ Hk
  iapply (wp_ldX c) $$ H0; iintro H0
  iapply (wp_ldX c) $$ Hx; iintro Hx
  iapply (wp_stX c) $$ Hx; iintro Hx
  iapply (wp_ldW c) $$ H1; iintro H1
  iapply (wp_ld c) $$ Hw; iintro Hw
  iapply (wp_st c) $$ Hw; iintro %Y1 %hY1 Hw
  iapply (wp_ldW c) $$ H3; iintro H3
  iapply (wp_ld c) $$ Hw; iintro Hw
  iapply (wp_st c) $$ Hw; iintro %Y2 %hY2 Hw
  iapply (wp_ldW c) $$ H4; iintro H4
  iapply (wp_ld c) $$ Hw; iintro Hw
  iapply (wp_st c) $$ Hw; iintro %Y3 %hY3 Hw
  iapply (wp_ldW c) $$ H2; iintro H2
  iapply (wp_ldW c) $$ Ho; iintro Ho
  iapply (wp_stW c) $$ Ho; iintro Ho
  obtain rfl := wCat_of hY1.1 hY2 hY3
  iapply Hk $$ [H0 H1 H2 H3 H4] [Hx] [Hw] [Ho]
  · isplitl [H0]; · iexact H0
    isplitl [H1]; · iexact H1
    isplitl [H2]; · iexact H2
    isplitl [H3]; · iexact H3
    iexact H4
  · iexact Hx
  · iexact Hw
  · iexact Ho

/-! ## The projections' buffers -/

/-- The block, of nine, of a row of the queries' buffer. -/
def qblk (i : S2x1152x512.Idx) : Fin 9 := ⟨(i 1).val / 128, by have : (i 1).val < 1152 := (i 1).isLt; omega⟩
/-- and, of eight, of a row of the keys' or the values'. -/
def kblk (i : S2x1024x512.Idx) : Fin 8 := ⟨(i 1).val / 128, by have : (i 1).val < 1024 := (i 1).isLt; omega⟩

/-- The queries of the blocks and batches in `P` are in place; -/
def qSt (P : Fin 9 → Fin 2 → Prop) : SP F :=
  iprop(∃ X, ⌜∀ i : S2x1152x512.Idx, P (qblk i) (i 0) → X i = I.qF c i⌝ ∗ owns (c : Thread nD τ) qbuf fullShare X)
/-- the keys; -/
def kSt (P : Fin 8 → Fin 2 → Prop) : SP F :=
  iprop(∃ X, ⌜∀ i : S2x1024x512.Idx, P (kblk i) (i 0) → X i = I.kF c i⌝ ∗ owns (c : Thread nD τ) kbuf fullShare X)
/-- the values. -/
def vSt (P : Fin 8 → Fin 2 → Prop) : SP F :=
  iprop(∃ X, ⌜∀ i : S2x1024x512.Idx, P (kblk i) (i 0) → X i = I.vF c i⌝ ∗ owns (c : Thread nD τ) vbuf fullShare X)

theorem qSt_mono {P P' : Fin 9 → Fin 2 → Prop} (h : ∀ n b, P' n b → P n b) : qSt I c P ⊢ qSt I c P' := by
  unfold qSt
  iintro ⟨%X, %hX, H⟩
  iexists X; isplitr
  · ipureintro; exact fun i hi => hX i (h _ _ hi)
  · iexact H

theorem wp_putQ {n : Fin 9} {b : Fin 2} {v : FVec F S1x128x512 .bf16} {k : PUnit → TP α} {P : Fin 9 → Fin 2 → Prop}
    (hv : v = qP b (I.xb (Inp.rowBlk (128 * n.val))) (I.wcat c)) :
    qSt I c P ⊢ iprop((qSt I c (fun n' b' => P n' b' ∨ (n' = n ∧ b' = b)) -∗ WP c (k ⟨⟩) Q) -∗ WP c (putQ n b v >>= k) Q) := by
  unfold qSt putQ
  simp only [bind_assoc]
  iintro ⟨%X, %hX, H⟩ Hk
  iapply (wp_ld c) $$ H; iintro H
  iapply (wp_st c) $$ H; iintro %Y %hY H
  iapply Hk
  iexists Y; isplitr
  · ipureintro
    intro i hi
    by_cases hm : qblk i = n ∧ i 0 = b
    · obtain ⟨h1, h2⟩ := hm
      have h1' : (i 1).val / 128 = n.val := congrArg Fin.val h1
      have e : i = (rQ n b).emb (ix3 0 ⟨(i 1).val % 128, Nat.mod_lt _ (by decide)⟩ (i 2)) := by
        funext x; apply Fin.ext; rw [unit_val]; fin_cases x
        · show (i 0).val = b.val + 0; rw [h2]; rfl
        · show (i 1).val = 128 * n.val + (i 1).val % 128; omega
        · exact (Nat.zero_add _).symm
      refine (congrArg Y e).trans ((hY.1 _).trans ?_)
      unfold Inp.qF
      have hr : Inp.rowBlk (i 1).val = Inp.rowBlk (128 * n.val) := by
        apply Fin.ext; show (i 1).val / 128 % 8 = 128 * n.val / 128 % 8; omega
      rw [hr, h2, hv]
    · refine (hY.2 i ?_).trans (hX i ?_)
      · intro hmem; apply hm
        rw [Rect.mem_set_unit] at hmem
        have h0 := hmem 0; have h1 := hmem 1
        change b.val ≤ (i 0).val ∧ (i 0).val < b.val + 1 at h0
        change 128 * n.val ≤ (i 1).val ∧ (i 1).val < 128 * n.val + 128 at h1
        exact ⟨Fin.ext (show (i 1).val / 128 = n.val by omega), Fin.ext (by omega)⟩
      · exact hi.resolve_right hm
  · iexact H

theorem wp_putK {n : Fin 8} {b : Fin 2} {v : FVec F S1x128x512 .bf16} {k : PUnit → TP α} {P : Fin 8 → Fin 2 → Prop}
    (hv : v = kP b (I.xb n) (I.wcat c)) :
    kSt I c P ⊢ iprop((kSt I c (fun n' b' => P n' b' ∨ (n' = n ∧ b' = b)) -∗ WP c (k ⟨⟩) Q) -∗ WP c (putK n b v >>= k) Q) := by
  unfold kSt putK
  simp only [bind_assoc]
  iintro ⟨%X, %hX, H⟩ Hk
  iapply (wp_ld c) $$ H; iintro H
  iapply (wp_st c) $$ H; iintro %Y %hY H
  iapply Hk
  iexists Y; isplitr
  · ipureintro
    intro i hi
    by_cases hm : kblk i = n ∧ i 0 = b
    · obtain ⟨h1, h2⟩ := hm
      have h1' : (i 1).val / 128 = n.val := congrArg Fin.val h1
      have e : i = (rK n b).emb (ix3 0 ⟨(i 1).val % 128, Nat.mod_lt _ (by decide)⟩ (i 2)) := by
        funext x; apply Fin.ext; rw [unit_val]; fin_cases x
        · show (i 0).val = b.val + 0; rw [h2]; rfl
        · show (i 1).val = 128 * n.val + (i 1).val % 128; omega
        · exact (Nat.zero_add _).symm
      refine (congrArg Y e).trans ((hY.1 _).trans ?_)
      unfold Inp.kF
      have hr : Inp.rowBlk (i 1).val = n := by
        apply Fin.ext; show (i 1).val / 128 % 8 = n.val; omega
      rw [hr, h2, hv]
    · refine (hY.2 i ?_).trans (hX i ?_)
      · intro hmem; apply hm
        rw [Rect.mem_set_unit] at hmem
        have h0 := hmem 0; have h1 := hmem 1
        change b.val ≤ (i 0).val ∧ (i 0).val < b.val + 1 at h0
        change 128 * n.val ≤ (i 1).val ∧ (i 1).val < 128 * n.val + 128 at h1
        exact ⟨Fin.ext (show (i 1).val / 128 = n.val by omega), Fin.ext (by omega)⟩
      · exact hi.resolve_right hm
  · iexact H

theorem wp_putV {n : Fin 8} {b : Fin 2} {v : FVec F S1x128x512 .bf16} {k : PUnit → TP α} {P : Fin 8 → Fin 2 → Prop}
    (hv : v = vP b (I.xb n) (I.wcat c)) :
    vSt I c P ⊢ iprop((vSt I c (fun n' b' => P n' b' ∨ (n' = n ∧ b' = b)) -∗ WP c (k ⟨⟩) Q) -∗ WP c (putV n b v >>= k) Q) := by
  unfold vSt putV
  simp only [bind_assoc]
  iintro ⟨%X, %hX, H⟩ Hk
  iapply (wp_ld c) $$ H; iintro H
  iapply (wp_st c) $$ H; iintro %Y %hY H
  iapply Hk
  iexists Y; isplitr
  · ipureintro
    intro i hi
    by_cases hm : kblk i = n ∧ i 0 = b
    · obtain ⟨h1, h2⟩ := hm
      have h1' : (i 1).val / 128 = n.val := congrArg Fin.val h1
      have e : i = (rK n b).emb (ix3 0 ⟨(i 1).val % 128, Nat.mod_lt _ (by decide)⟩ (i 2)) := by
        funext x; apply Fin.ext; rw [unit_val]; fin_cases x
        · show (i 0).val = b.val + 0; rw [h2]; rfl
        · show (i 1).val = 128 * n.val + (i 1).val % 128; omega
        · exact (Nat.zero_add _).symm
      refine (congrArg Y e).trans ((hY.1 _).trans ?_)
      unfold Inp.vF
      have hr : Inp.rowBlk (i 1).val = n := by
        apply Fin.ext; show (i 1).val / 128 % 8 = n.val; omega
      rw [hr, h2, hv]
    · refine (hY.2 i ?_).trans (hX i ?_)
      · intro hmem; apply hm
        rw [Rect.mem_set_unit] at hmem
        have h0 := hmem 0; have h1 := hmem 1
        change b.val ≤ (i 0).val ∧ (i 0).val < b.val + 1 at h0
        change 128 * n.val ≤ (i 1).val ∧ (i 1).val < 128 * n.val + 128 at h1
        exact ⟨Fin.ext (show (i 1).val / 128 = n.val by omega), Fin.ext (by omega)⟩
      · exact hi.resolve_right hm
  · iexact H

/-- The three buffers, where the blocks and batches in `P` are in place (the ninth block of the queries with the first). -/
def qkvSt (P : Fin 8 → Fin 2 → Prop) : SP F :=
  iprop(qSt I c (fun n b => P ⟨n.val % 8, Nat.mod_lt _ (by decide)⟩ b) ∗ kSt I c P ∗ vSt I c P)

theorem wp_qkvRow {n : Fin 8} {b : Fin 2} {k : PUnit → TP α} {P : Fin 8 → Fin 2 → Prop} :
    qkvSt I c P ⊢ iprop((qkvSt I c (fun n' b' => P n' b' ∨ (n' = n ∧ b' = b)) -∗ WP c (k ⟨⟩) Q)
      -∗ WP c (qkvRow n b (I.xb n) (I.wcat c) >>= k) Q) := by
  unfold qkvSt qkvRow
  simp only [bind_assoc]
  iintro ⟨Hq, Hk, Hv⟩ K
  iapply (wp_putQ I c (by
    have : Inp.rowBlk (128 * n.castSucc.val) = n := by
      apply Fin.ext; show 128 * n.val / 128 % 8 = n.val; omega
    rw [this])) $$ Hq; iintro Hq
  iapply (wp_putK I c rfl) $$ Hk; iintro Hk
  iapply (wp_putV I c rfl) $$ Hv; iintro Hv
  by_cases hn : n = 0
  · subst hn
    rw [if_pos rfl]
    iapply (wp_putQ I c (n := 8) rfl) $$ Hq; iintro Hq
    iapply K
    isplitl [Hq]
    · iapply (qSt_mono I c (fun n' b' h => by
        rcases h with h | ⟨h1, h2⟩
        · exact Or.inl (Or.inl h)
        · have h1' : n'.val % 8 = 0 := congrArg Fin.val h1
          rcases (by omega : n'.val = 0 ∨ n'.val = 8) with e | e
          · exact Or.inl (Or.inr ⟨Fin.ext e, h2⟩)
          · exact Or.inr ⟨Fin.ext e, h2⟩)) $$ Hq
    isplitl [Hk]; · iexact Hk
    iexact Hv
  · rw [if_neg hn, pure_bind]
    iapply K
    isplitl [Hq]
    · iapply (qSt_mono I c (fun n' b' h => by
        rcases h with h | ⟨h1, h2⟩
        · exact Or.inl h
        · have h1' : n'.val % 8 = n.val := congrArg Fin.val h1
          have : n.val ≠ 0 := fun e => hn (Fin.ext e)
          exact Or.inr ⟨Fin.ext (show n'.val = n.val by omega), h2⟩)) $$ Hq
    isplitl [Hk]; · iexact Hk
    iexact Hv

/-- The three buffers, where the blocks in `T` are in place. -/
def qkvs (T : Finset (Fin 8)) : SP F := qkvSt I c (fun n _ => n ∈ T)

theorem qkvSt_mono {P P' : Fin 8 → Fin 2 → Prop} (h : ∀ n b, P' n b → P n b) : qkvSt I c P ⊢ qkvSt I c P' := by
  unfold qkvSt qSt kSt vSt
  iintro ⟨⟨%X, %hX, HX⟩, ⟨%Y, %hY, HY⟩, ⟨%Z, %hZ, HZ⟩⟩
  isplitl [HX]
  · iexists X; isplitr
    · ipureintro; exact fun i hi => hX i (h _ _ hi)
    · iexact HX
  isplitl [HY]
  · iexists Y; isplitr
    · ipureintro; exact fun i hi => hY i (h _ _ hi)
    · iexact HY
  · iexists Z; isplitr
    · ipureintro; exact fun i hi => hZ i (h _ _ hi)
    · iexact HZ

/-- Projecting a block whose rows are device `n`'s. -/
theorem wp_qkvBlock {n : Fin 8} {k : PUnit → TP α} {T : Finset (Fin 8)} {X : FVec F S2x128x512 .bf16} (hX : X = I.xb n) :
    iprop(qkvs I c T ∗ owns (c : Thread nD τ) wqkv fullShare (I.wcat c))
      ⊢ iprop((qkvs I c (insert n T) -∗ owns (c : Thread nD τ) wqkv fullShare (I.wcat c) -∗ WP c (k ⟨⟩) Q)
        -∗ WP c (qkvBlock n X >>= k) Q) := by
  subst hX
  unfold qkvs qkvBlock
  simp only [bind_assoc]
  iintro ⟨H, Hw⟩ Hk
  iapply (wp_ld c (m := wqkv) (r := rQKV)) $$ Hw; iintro Hw
  rw [show (fun j => I.wcat c (rQKV.emb j)) = I.wcat c from funext fun j => congrArg (I.wcat c) (emb_rQKV j)]
  iapply (wp_qkvRow I c) $$ H; iintro H
  iapply (wp_qkvRow I c) $$ H; iintro H
  iapply Hk $$ [H] [Hw]
  · iapply (qkvSt_mono I c (fun n' b' h => by
      rcases Finset.mem_insert.mp h with h | h
      · have hb : b' = 0 ∨ b' = 1 := by omega
        rcases hb with rfl | rfl
        · exact Or.inl (Or.inr ⟨h, rfl⟩)
        · exact Or.inr ⟨h, rfl⟩
      · exact Or.inl (Or.inl h))) $$ H
  · iexact Hw

/-- Everything is in place. -/
theorem qkvs_all {T : Finset (Fin 8)} (hT : T = Finset.univ) :
    qkvs I c T ⊢ iprop(owns (c : Thread nD τ) qbuf fullShare (I.qF c) ∗ owns (c : Thread nD τ) kbuf fullShare (I.kF c)
      ∗ owns (c : Thread nD τ) vbuf fullShare (I.vF c)) := by
  subst hT
  unfold qkvs qkvSt qSt kSt vSt
  iintro ⟨⟨%X, %hX, HX⟩, ⟨%Y, %hY, HY⟩, ⟨%Z, %hZ, HZ⟩⟩
  obtain rfl : X = I.qF c := funext fun i => hX i (Finset.mem_univ _)
  obtain rfl : Y = I.kF c := funext fun i => hY i (Finset.mem_univ _)
  obtain rfl : Z = I.vF c := funext fun i => hZ i (Finset.mem_univ _)
  isplitl [HX]; · iexact HX
  isplitl [HY]; · iexact HY
  iexact HZ

/-- and nothing is at the start. -/
theorem qkvs_none : iprop((∃ X, owns (c : Thread nD τ) qbuf fullShare X) ∗ (∃ X, owns (c : Thread nD τ) kbuf fullShare X)
      ∗ (∃ X, owns (c : Thread nD τ) vbuf fullShare X)) ⊢ qkvs I c ∅ := by
  unfold qkvs qkvSt qSt kSt vSt
  iintro ⟨⟨%X, HX⟩, ⟨%Y, HY⟩, ⟨%Z, HZ⟩⟩
  isplitl [HX]
  · iexists X; isplitr
    · ipureintro; exact fun i hi => absurd hi (Finset.notMem_empty _)
    · iexact HX
  isplitl [HY]
  · iexists Y; isplitr
    · ipureintro; exact fun i hi => absurd hi (Finset.notMem_empty _)
    · iexact HY
  · iexists Z; isplitr
    · ipureintro; exact fun i hi => absurd hi (Finset.notMem_empty _)
    · iexact HZ

/-! ## Shares of a block -/

theorem owns_halves {s : Shape} {e : EltTy} (m : Memref sig .tc .vmem s e) (q : PosShare TreeShare) (X : Vec F s e) :
    (owns (c : Thread nD τ) m q X : SP F) ⊢ iprop(owns (c : Thread nD τ) m q.left X ∗ owns (c : Thread nD τ) m q.right X) := by
  unfold owns
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

theorem owns_whole_of_halves {s : Shape} {e : EltTy} (m : Memref sig .tc .vmem s e) (q : PosShare TreeShare) (X : Vec F s e) :
    iprop(owns (c : Thread nD τ) m q.left X ∗ owns (c : Thread nD τ) m q.right X) ⊢ (owns (c : Thread nD τ) m q X : SP F) := by
  unfold owns
  iintro ⟨⟨%f, %hf, H1⟩, ⟨%g, %hg, H2⟩⟩
  iexists f; isplitr
  · ipureintro; exact hf
  · have e : ∀ i ∈ m.view.set, g i = f i := by
      intro i hi
      obtain ⟨x, -, rfl⟩ := Finset.mem_map.mp hi
      exact (cast_inj _).mp (congrFun (hg.trans hf.symm) x)
    iapply (pointsTo_share (PosShare.mem_left_op_right q)).2
    isplitl [H1]; · iexact H1
    iapply (Entails.of_eq (pointsTo_congr e)) $$ H2

/-- A block that arrived and goes on: a share for the transfer, the rest kept; -/
theorem hop (j i : Fin 14) (hm : srcM i = dstM j) (hq : qsh i = fullShare.left) (hs : I.sent c i = I.sent (from_ c j) j) :
    (owns (c : Thread nD τ) (dstM j) fullShare (I.sent (from_ c j) j) : SP F)
      ⊢ iprop(owns (c : Thread nD τ) (srcM i) (qsh i) (I.sent c i) ∗ owns (c : Thread nD τ) (dstM j) fullShare.right (I.sent (from_ c j) j)) := by
  rw [hm, hq, hs]; exact owns_halves c _ _ _
/-- and both joined. -/
theorem unhop (j i : Fin 14) (hm : srcM i = dstM j) (hq : qsh i = fullShare.left) (hs : I.sent c i = I.sent (from_ c j) j) :
    iprop(owns (c : Thread nD τ) (srcM i) (qsh i) (I.sent c i) ∗ owns (c : Thread nD τ) (dstM j) fullShare.right (I.sent (from_ c j) j))
      ⊢ (owns (c : Thread nD τ) (dstM j) fullShare (I.sent (from_ c j) j) : SP F) := by
  rw [hm, hq, hs]; exact owns_whole_of_halves c _ _ _

/-! ## The gathering -/

/-- Transfer `n`, the next in order. -/
theorem wp_sendN {k : PUnit → TP α} (j : Fin 14) (n m : Nat) (hn : j.val = n) (hm : n + 1 = m) (S R : Finset (Fin 14)) (hS : j ∉ S) :
    iprop(Comm I c n S R ∗ owns (c : Thread nD τ) (srcM j) (qsh j) (I.sent c j))
      ⊢ iprop((Comm I c m S R -∗ WP c (k ⟨⟩) Q) -∗ WP c (sendOp c j >>= k) Q) := by
  subst hn; subst hm; exact wp_send I c j S R hS

/-- Projecting the device's own block, -/
theorem wp_own {k : PUnit → TP α} {T : Finset (Fin 8)} {q : PosShare TreeShare} :
    iprop(owns (c : Thread nD τ) x16 q (I.xb c) ∗ qkvs I c T ∗ owns (c : Thread nD τ) wqkv fullShare (I.wcat c))
      ⊢ iprop((owns (c : Thread nD τ) x16 q (I.xb c) -∗ qkvs I c (insert (blk c 0) T) -∗ owns (c : Thread nD τ) wqkv fullShare (I.wcat c) -∗ WP c (k ⟨⟩) Q)
        -∗ WP c (own c >>= k) Q) := by
  unfold own
  simp only [bind_assoc]
  iintro ⟨Hx, H, Hw⟩ Hk
  iapply (wp_ldX c) $$ Hx; iintro Hx
  iapply (wp_qkvBlock I c (n := blk c 0) (congrArg I.xb (show c = blk c 0 by revert c; decide))) $$ [H Hw]
  · isplitl [H]; · iexact H
    iexact Hw
  iintro H Hw
  iapply Hk $$ Hx H Hw
/-- one that came from the left, -/
theorem wp_fromL (h : Fin 4) (j : Fin 14) (hm : dstM j = sl4 rbuf h) (hs : I.sent (from_ c j) j = I.xb (blk c (7 - h.val)))
    {k : PUnit → TP α} {T : Finset (Fin 8)} {q : PosShare TreeShare} :
    iprop(owns (c : Thread nD τ) (dstM j) q (I.sent (from_ c j) j) ∗ qkvs I c T ∗ owns (c : Thread nD τ) wqkv fullShare (I.wcat c))
      ⊢ iprop((owns (c : Thread nD τ) (dstM j) q (I.sent (from_ c j) j) -∗ qkvs I c (insert (blk c (7 - h.val)) T)
          -∗ owns (c : Thread nD τ) wqkv fullShare (I.wcat c) -∗ WP c (k ⟨⟩) Q)
        -∗ WP c (fromL c h >>= k) Q) := by
  rw [hm, hs]
  unfold fromL
  simp only [bind_assoc]
  iintro ⟨Hx, H, Hw⟩ Hk
  iapply (wp_ld4 c) $$ Hx; iintro Hx
  iapply (wp_qkvBlock I c (n := blk c (7 - h.val)) (sq_unsq _)) $$ [H Hw]
  · isplitl [H]; · iexact H
    iexact Hw
  iintro H Hw
  iapply Hk $$ Hx H Hw
/-- and one that came from the right. -/
theorem wp_fromR (h : Fin 3) (j : Fin 14) (hm : dstM j = sl3 lbuf h) (hs : I.sent (from_ c j) j = I.xb (blk c (1 + h.val)))
    {k : PUnit → TP α} {T : Finset (Fin 8)} {q : PosShare TreeShare} :
    iprop(owns (c : Thread nD τ) (dstM j) q (I.sent (from_ c j) j) ∗ qkvs I c T ∗ owns (c : Thread nD τ) wqkv fullShare (I.wcat c))
      ⊢ iprop((owns (c : Thread nD τ) (dstM j) q (I.sent (from_ c j) j) -∗ qkvs I c (insert (blk c (1 + h.val)) T)
          -∗ owns (c : Thread nD τ) wqkv fullShare (I.wcat c) -∗ WP c (k ⟨⟩) Q)
        -∗ WP c (fromR c h >>= k) Q) := by
  rw [hm, hs]
  unfold fromR
  simp only [bind_assoc]
  iintro ⟨Hx, H, Hw⟩ Hk
  iapply (wp_ld3 c) $$ Hx; iintro Hx
  iapply (wp_qkvBlock I c (n := blk c (1 + h.val)) (sq_unsq _)) $$ [H Hw]
  · isplitl [H]; · iexact H
    iexact Hw
  iintro H Hw
  iapply Hk $$ Hx H Hw

/-- What transfer `j` left on its arrival. -/
abbrev got (j : Fin 14) : SP F := owns (c : Thread nD τ) (dstM j) fullShare (I.sent (from_ c j) j)

/-- The gathering: seven blocks arrive, and the projection buffers hold every block's rows. -/
theorem wp_gather {k : PUnit → TP α} :
    iprop(Comm I c 0 ∅ ∅ ∗ owns (c : Thread nD τ) x16 fullShare (I.xb c) ∗ qkvs I c ∅ ∗ owns (c : Thread nD τ) wqkv fullShare (I.wcat c))
      ⊢ iprop((Comm I c 7 {0, 1, 2, 3, 4, 5, 6} {0, 1, 2, 3, 4, 5, 6} -∗ owns (c : Thread nD τ) x16 fullShare (I.xb c)
          -∗ got I c 0 -∗ got I c 1 -∗ got I c 2 -∗ got I c 3 -∗ got I c 4 -∗ got I c 5 -∗ got I c 6
          -∗ owns (c : Thread nD τ) qbuf fullShare (I.qF c) -∗ owns (c : Thread nD τ) kbuf fullShare (I.kF c)
          -∗ owns (c : Thread nD τ) vbuf fullShare (I.vF c)
          -∗ owns (c : Thread nD τ) wqkv fullShare (I.wcat c) -∗ WP c (k ⟨⟩) Q)
        -∗ WP c (gatherP c >>= k) Q) := by
  unfold gatherP
  simp only [bind_assoc]
  iintro ⟨C, Hx, T, W⟩ Hk
  ihave Hx := (owns_halves c x16 fullShare _) $$ Hx
  icases Hx with ⟨x0, Hx⟩
  ihave Hx := (owns_halves c x16 fullShare.right _) $$ Hx
  icases Hx with ⟨x1, Hx⟩
  iapply (wp_sendN I c 0 0 1 rfl rfl (∅) (∅) (by decide)) $$ [C x0]
  · isplitl [C]; · iexact C
    iexact x0
  iintro C
  iapply (wp_sendN I c 1 1 2 rfl rfl (∅) (∅) (by decide)) $$ [C x1]
  · isplitl [C]; · iexact C
    iexact x1
  iintro C
  iapply (wp_own I c) $$ [Hx T W]
  · isplitl [Hx]; · iexact Hx
    isplitl [T]; · iexact T
    iexact W
  iintro Hx T W
  iapply (wp_waitR I c 0 2 (∅) (∅) (by decide) (by decide)) $$ C
  iintro C d0
  ihave d0 := (hop I c 0 2 rfl rfl rfl) $$ d0
  icases d0 with ⟨s2, d0⟩
  iapply (wp_sendN I c 2 2 3 rfl rfl (∅) (insert 0 ∅) (by decide)) $$ [C s2]
  · isplitl [C]; · iexact C
    iexact s2
  iintro C
  iapply (wp_waitR I c 1 3 (∅) (insert 0 ∅) (by decide) (by decide)) $$ C
  iintro C d1
  ihave d1 := (hop I c 1 3 rfl rfl rfl) $$ d1
  icases d1 with ⟨s3, d1⟩
  iapply (wp_sendN I c 3 3 4 rfl rfl (∅) (insert 1 (insert 0 ∅)) (by decide)) $$ [C s3]
  · isplitl [C]; · iexact C
    iexact s3
  iintro C
  iapply (wp_fromL I c 0 0 rfl (congrArg I.xb (show prv c = _ by revert c; decide))) $$ [d0 T W]
  · isplitl [d0]; · iexact d0
    isplitl [T]; · iexact T
    iexact W
  iintro d0 T W
  iapply (wp_fromR I c 0 1 rfl (congrArg I.xb (show nxt c = _ by revert c; decide))) $$ [d1 T W]
  · isplitl [d1]; · iexact d1
    isplitl [T]; · iexact T
    iexact W
  iintro d1 T W
  iapply (wp_waitR I c 2 4 (∅) (insert 1 (insert 0 ∅)) (by decide) (by decide)) $$ C
  iintro C d2
  ihave d2 := (hop I c 2 4 rfl rfl rfl) $$ d2
  icases d2 with ⟨s4, d2⟩
  iapply (wp_sendN I c 4 4 5 rfl rfl (∅) (insert 2 (insert 1 (insert 0 ∅))) (by decide)) $$ [C s4]
  · isplitl [C]; · iexact C
    iexact s4
  iintro C
  iapply (wp_waitR I c 3 5 (∅) (insert 2 (insert 1 (insert 0 ∅))) (by decide) (by decide)) $$ C
  iintro C d3
  ihave d3 := (hop I c 3 5 rfl rfl rfl) $$ d3
  icases d3 with ⟨s5, d3⟩
  iapply (wp_sendN I c 5 5 6 rfl rfl (∅) (insert 3 (insert 2 (insert 1 (insert 0 ∅)))) (by decide)) $$ [C s5]
  · isplitl [C]; · iexact C
    iexact s5
  iintro C
  iapply (wp_fromL I c 1 2 rfl (congrArg I.xb (show prv (prv c) = _ by revert c; decide))) $$ [d2 T W]
  · isplitl [d2]; · iexact d2
    isplitl [T]; · iexact T
    iexact W
  iintro d2 T W
  iapply (wp_fromR I c 1 3 rfl (congrArg I.xb (show nxt (nxt c) = _ by revert c; decide))) $$ [d3 T W]
  · isplitl [d3]; · iexact d3
    isplitl [T]; · iexact T
    iexact W
  iintro d3 T W
  iapply (wp_waitR I c 4 6 (∅) (insert 3 (insert 2 (insert 1 (insert 0 ∅)))) (by decide) (by decide)) $$ C
  iintro C d4
  ihave d4 := (hop I c 4 6 rfl rfl rfl) $$ d4
  icases d4 with ⟨s6, d4⟩
  iapply (wp_sendN I c 6 6 7 rfl rfl (∅) (insert 4 (insert 3 (insert 2 (insert 1 (insert 0 ∅))))) (by decide)) $$ [C s6]
  · isplitl [C]; · iexact C
    iexact s6
  iintro C
  iapply (wp_waitR I c 5 7 (∅) (insert 4 (insert 3 (insert 2 (insert 1 (insert 0 ∅))))) (by decide) (by decide)) $$ C
  iintro C d5
  iapply (wp_fromL I c 2 4 rfl (congrArg I.xb (show prv (prv (prv c)) = _ by revert c; decide))) $$ [d4 T W]
  · isplitl [d4]; · iexact d4
    isplitl [T]; · iexact T
    iexact W
  iintro d4 T W
  iapply (wp_fromR I c 2 5 rfl (congrArg I.xb (show nxt (nxt (nxt c)) = _ by revert c; decide))) $$ [d5 T W]
  · isplitl [d5]; · iexact d5
    isplitl [T]; · iexact T
    iexact W
  iintro d5 T W
  iapply (wp_waitR I c 6 7 (∅) (insert 5 (insert 4 (insert 3 (insert 2 (insert 1 (insert 0 ∅)))))) (by decide) (by decide)) $$ C
  iintro C d6
  iapply (wp_fromL I c 3 6 rfl (congrArg I.xb (show prv (prv (prv (prv c))) = _ by revert c; decide))) $$ [d6 T W]
  · isplitl [d6]; · iexact d6
    isplitl [T]; · iexact T
    iexact W
  iintro d6 T W
  iapply (wp_waitS I c 0 7 (∅) (insert 6 (insert 5 (insert 4 (insert 3 (insert 2 (insert 1 (insert 0 ∅))))))) (by decide) (by decide)) $$ C
  iintro C s0
  iapply (wp_waitS I c 2 7 (insert 0 ∅) (insert 6 (insert 5 (insert 4 (insert 3 (insert 2 (insert 1 (insert 0 ∅))))))) (by decide) (by decide)) $$ C
  iintro C s2
  iapply (wp_waitS I c 4 7 (insert 2 (insert 0 ∅)) (insert 6 (insert 5 (insert 4 (insert 3 (insert 2 (insert 1 (insert 0 ∅))))))) (by decide) (by decide)) $$ C
  iintro C s4
  iapply (wp_waitS I c 6 7 (insert 4 (insert 2 (insert 0 ∅))) (insert 6 (insert 5 (insert 4 (insert 3 (insert 2 (insert 1 (insert 0 ∅))))))) (by decide) (by decide)) $$ C
  iintro C s6
  iapply (wp_waitS I c 1 7 (insert 6 (insert 4 (insert 2 (insert 0 ∅)))) (insert 6 (insert 5 (insert 4 (insert 3 (insert 2 (insert 1 (insert 0 ∅))))))) (by decide) (by decide)) $$ C
  iintro C s1
  iapply (wp_waitS I c 3 7 (insert 1 (insert 6 (insert 4 (insert 2 (insert 0 ∅))))) (insert 6 (insert 5 (insert 4 (insert 3 (insert 2 (insert 1 (insert 0 ∅))))))) (by decide) (by decide)) $$ C
  iintro C s3
  iapply (wp_waitS I c 5 7 (insert 3 (insert 1 (insert 6 (insert 4 (insert 2 (insert 0 ∅)))))) (insert 6 (insert 5 (insert 4 (insert 3 (insert 2 (insert 1 (insert 0 ∅))))))) (by decide) (by decide)) $$ C
  iintro C s5
  ihave Hx := (owns_whole_of_halves c x16 fullShare.right (I.xb c)) $$ [s1 Hx]
  · isplitl [s1]; · iexact s1
    iexact Hx
  ihave Hx := (owns_whole_of_halves c x16 fullShare (I.xb c)) $$ [s0 Hx]
  · isplitl [s0]; · iexact s0
    iexact Hx
  ihave d0 := (unhop I c 0 2 rfl rfl rfl) $$ [s2 d0]
  · isplitl [s2]; · iexact s2
    iexact d0
  ihave d1 := (unhop I c 1 3 rfl rfl rfl) $$ [s3 d1]
  · isplitl [s3]; · iexact s3
    iexact d1
  ihave d2 := (unhop I c 2 4 rfl rfl rfl) $$ [s4 d2]
  · isplitl [s4]; · iexact s4
    iexact d2
  ihave d3 := (unhop I c 3 5 rfl rfl rfl) $$ [s5 d3]
  · isplitl [s5]; · iexact s5
    iexact d3
  ihave d4 := (unhop I c 4 6 rfl rfl rfl) $$ [s6 d4]
  · isplitl [s6]; · iexact s6
    iexact d4
  ihave T := (qkvs_all I c (by revert c; decide)) $$ T
  icases T with ⟨HQ, HK, HV⟩
  iapply Hk $$ [C] Hx d0 d1 d2 d3 d4 d5 d6 HQ HK HV W
  · have eS : (insert 5 (insert 3 (insert 1 (insert 6 (insert 4 (insert 2 (insert 0 ∅)))))) : Finset (Fin 14)) = {0, 1, 2, 3, 4, 5, 6} := by decide
    have eR : (insert 6 (insert 5 (insert 4 (insert 3 (insert 2 (insert 1 (insert 0 ∅)))))) : Finset (Fin 14)) = {0, 1, 2, 3, 4, 5, 6} := by decide
    rw [← eS]
    iexact C

end Cert.KernelIdeal.Gen.Mine
-- ==== Proof.Chunks.lean ====
module

public import proofs.«01_k».proof.Proof.Gather

/-! # The chunks of the second phase -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ
local notation "TP" => Prog (TpuEff nD τ sig (Elt F) Λ₀ Proc.tc)

variable (I : Inp F) (c : Dev nD) {α : Type} {Q : α → SP F}

/-! ## The loop over pairs of heads -/

/-- What the loops read: every row's queries, keys and values, and the output weights. -/
abbrev att : SP F :=
  iprop(owns (c : Thread nD τ) qbuf fullShare (I.qF c) ∗ owns (c : Thread nD τ) kbuf fullShare (I.kF c)
    ∗ owns (c : Thread nD τ) vbuf fullShare (I.vF c) ∗ owns (c : Thread nD τ) wo16 fullShare (I.wob c))

theorem wp_pure {β : Type} {r : β} {R : β → SP F} : R r ⊢ WP c (pure r) R := by
  show R r ⊢ wp _ _ _ (Prog.ret r) R
  rw [wp_ret]
  exact fupd_intro

/-- The loop sums the four pairs of heads of 256 rows from block `n` on, of batch `b`. -/
theorem wp_headLoop (n : Fin 8) (b : Fin 2) {l : Scf.Loop 32} {hok : l.OK} {oq ok : Fin l.trips → Fin 3 → Nat} {ow : Fin l.trips → Fin 2 → Nat}
    {hq : ∀ t a, oq t a + S1x256x128.size a ≤ S2x1152x512.size a} {hk : ∀ t a, ok t a + S1x1024x128.size a ≤ S2x1024x512.size a}
    {hw : ∀ t a, ow t a + S128x512.size a ≤ S512x512.size a} (ht : l.trips = 4)
    (eq : ∀ t, oq t = ![b.val, 128 * n.val, 128 * t.val]) (ek : ∀ t, ok t = ![b.val, 0, 128 * t.val]) (ew : ∀ t, ow t = ![128 * t.val, 0])
    {k : FVec F S256x512 .f32 → TP α} :
    att I c ⊢ iprop((att I c -∗ WP c (k (I.headAcc c n b 4)) Q) -∗ WP c (headLoop l hok oq ok ow hq hk hw >>= k) Q) := by
  unfold headLoop
  have body : ∀ (t : Fin l.trips) (acc : FVec F S256x512 .f32),
      iprop(⌜acc = I.headAcc c n b t.val⌝ ∗ att I c) ⊢ WP c (do
        let q : Vec F S1x256x128 .bf16 ← Prog.lift (.load qbuf (Rect.unit (s := S2x1152x512) (oq t) S1x256x128.size (hq t)).toLoadRect (View.loadsAt_vmem h_S1x256x128))
        let k : Vec F S1x1024x128 .bf16 ← Prog.lift (.load kbuf (Rect.unit (s := S2x1024x512) (ok t) S1x1024x128.size (hk t)).toLoadRect (View.loadsAt_vmem h_S1x1024x128))
        let v : Vec F S1x1024x128 .bf16 ← Prog.lift (.load vbuf (Rect.unit (s := S2x1024x512) (ok t) S1x1024x128.size (hk t)).toLoadRect (View.loadsAt_vmem h_S1x1024x128))
        let w : Vec F S128x512 .bf16 ← Prog.lift (.load wo16 (Rect.unit (s := S512x512) (ow t) S128x512.size (hw t)).toLoadRect (View.loadsAt_vmem h_S128x512))
        pure (headP acc q k v w)) (fun r => iprop(⌜r = I.headAcc c n b (t.val + 1)⌝ ∗ att I c)) := by
    intro t acc
    have h4 : t.val < 4 := ht ▸ t.isLt
    iintro ⟨%e, HQ, HK, HV, HW⟩
    subst e
    iapply (wp_ld c) $$ HQ; iintro HQ
    iapply (wp_ld c) $$ HK; iintro HK
    iapply (wp_ld c) $$ HV; iintro HV
    iapply (wp_ld c) $$ HW; iintro HW
    iapply (wp_pure c)
    isplitr
    · ipureintro
      have e1 : (fun j => I.qF c ((Rect.unit (s := S2x1152x512) (oq t) S1x256x128.size (hq t)).emb j)) = I.qT c n b ⟨t.val, h4⟩ := by
        funext j; refine congrArg (I.qF c) (funext fun a => Fin.ext ?_)
        refine (unit_val _ j a).trans ((congrArg (· + (j a).val) (congrFun (eq t) a)).trans ?_)
        have : (j 0).val = 0 := Nat.lt_one_iff.mp (j 0).isLt
        fin_cases a
        · show b.val + (j 0).val = b.val; omega
        · rfl
        · rfl
      have e2 : ∀ X : Vec F S2x1024x512 .bf16, (fun j => X ((Rect.unit (s := S2x1024x512) (ok t) S1x1024x128.size (hk t)).emb j))
          = fun i => X (ix3 b (i 1) ⟨128 * t.val + (i 2).val, by have : (i 2).val < 128 := (i 2).isLt; omega⟩) := by
        intro X; funext j; refine congrArg X (funext fun a => Fin.ext ?_)
        refine (unit_val _ j a).trans ((congrArg (· + (j a).val) (congrFun (ek t) a)).trans ?_)
        have : (j 0).val = 0 := Nat.lt_one_iff.mp (j 0).isLt
        fin_cases a
        · show b.val + (j 0).val = b.val; omega
        · exact Nat.zero_add _
        · rfl
      have e3 : (fun j => I.wob c ((Rect.unit (s := S512x512) (ow t) S128x512.size (hw t)).emb j)) = I.wT c ⟨t.val, h4⟩ := by
        funext j; refine congrArg (I.wob c) (funext fun a => Fin.ext ?_)
        refine (unit_val _ j a).trans ((congrArg (· + (j a).val) (congrFun (ew t) a)).trans ?_)
        fin_cases a
        · rfl
        · exact Nat.zero_add _
      rw [e1, e2, e2, e3]
      rw [Inp.headAcc, dif_pos h4]; rfl
    · isplitl [HQ]; · iexact HQ
      isplitl [HK]; · iexact HK
      isplitl [HV]; · iexact HV
      iexact HW
  have hh := Scf.wp_for_bind frame (wpE (defs₀ (F := F)) 𝒱₀ (c : Thread nD τ) none) Set.univ l.lb l.ub l.st hok (k0_pay174 (F := F)) _
    (fun t acc => iprop(⌜acc = I.headAcc c n b t⌝ ∗ att I c)) body (kk := k) (Q := Q)
  iintro H Hk
  iapply hh $$ [H]
  · isplitr
    · ipureintro; rfl
    · iexact H
  iintro %acc ⟨%e, H⟩
  have e' : acc = I.headAcc c n b 4 := e.trans (congrArg (I.headAcc c n b) ht)
  subst e'
  iapply Hk $$ H

/-! The eight loops: each chunk's two batches. -/
theorem wp_loop1 {k : FVec F S256x512 .f32 → TP α} :
    att I c ⊢ iprop((att I c -∗ WP c (k (I.headAcc c (blk c 3) 0 4)) Q) -∗ WP c (loop1 c >>= k) Q) :=
  wp_headLoop I c (blk c 3) 0 (by decide) (by revert c; decide) (by decide) (by decide)
theorem wp_loop2 {k : FVec F S256x512 .f32 → TP α} :
    att I c ⊢ iprop((att I c -∗ WP c (k (I.headAcc c (blk c 3) 1 4)) Q) -∗ WP c (loop2 c >>= k) Q) :=
  wp_headLoop I c (blk c 3) 1 (by decide) (by revert c; decide) (by decide) (by decide)
theorem wp_loop3 {k : FVec F S256x512 .f32 → TP α} :
    att I c ⊢ iprop((att I c -∗ WP c (k (I.headAcc c (blk c 1) 0 4)) Q) -∗ WP c (loop3 c >>= k) Q) :=
  wp_headLoop I c (blk c 1) 0 (by decide) (by revert c; decide) (by decide) (by decide)
theorem wp_loop4 {k : FVec F S256x512 .f32 → TP α} :
    att I c ⊢ iprop((att I c -∗ WP c (k (I.headAcc c (blk c 1) 1 4)) Q) -∗ WP c (loop4 c >>= k) Q) :=
  wp_headLoop I c (blk c 1) 1 (by decide) (by revert c; decide) (by decide) (by decide)
theorem wp_loop5 {k : FVec F S256x512 .f32 → TP α} :
    att I c ⊢ iprop((att I c -∗ WP c (k (I.headAcc c (blk c 5) 0 4)) Q) -∗ WP c (loop5 c >>= k) Q) :=
  wp_headLoop I c (blk c 5) 0 (by decide) (by revert c; decide) (by decide) (by decide)
theorem wp_loop6 {k : FVec F S256x512 .f32 → TP α} :
    att I c ⊢ iprop((att I c -∗ WP c (k (I.headAcc c (blk c 5) 1 4)) Q) -∗ WP c (loop6 c >>= k) Q) :=
  wp_headLoop I c (blk c 5) 1 (by decide) (by revert c; decide) (by decide) (by decide)
theorem wp_loop7 {k : FVec F S256x512 .f32 → TP α} :
    att I c ⊢ iprop((att I c -∗ WP c (k (I.headAcc c (blk c 7) 0 4)) Q) -∗ WP c (loop7 c >>= k) Q) :=
  wp_headLoop I c (blk c 7) 0 (by decide) (by revert c; decide) (by decide) (by decide)
theorem wp_loop8 {k : FVec F S256x512 .f32 → TP α} :
    att I c ⊢ iprop((att I c -∗ WP c (k (I.headAcc c (blk c 7) 1 4)) Q) -∗ WP c (loop8 c >>= k) Q) :=
  wp_headLoop I c (blk c 7) 1 (by decide) (by revert c; decide) (by decide) (by decide)

/-! ## A partial product's buffer -/

/-- The buffer with batch 0 put. -/
def half (m : Memref sig .tc .vmem S2x256x512 .bf16) (n : Fin 8) : SP F :=
  iprop(∃ Y : Vec F S2x256x512 .bf16, ⌜∀ i, (i 0).val = 0 → Y i = I.part c n i⌝ ∗ owns (c : Thread nD τ) m fullShare Y)

theorem emb_rP (b : Fin 2) (i : S2x256x512.Idx) (h : (i 0).val = b.val) : i = (rP b).emb (ix3 0 (i 1) (i 2)) := by
  funext a; apply Fin.ext; rw [unit_val]
  fin_cases a
  · exact h
  · exact (Nat.zero_add _).symm
  · exact (Nat.zero_add _).symm

theorem wp_putP0 {m : Memref sig .tc .vmem S2x256x512 .bf16} {hm : m.IsWhole} (n : Fin 8) {k : PUnit → TP α} :
    iprop(∃ X, owns (c : Thread nD τ) m fullShare X)
      ⊢ iprop((half I c m n -∗ WP c (k ⟨⟩) Q) -∗ WP c (putP m hm 0 (partP (I.headAcc c n 0 4)) >>= k) Q) := by
  unfold putP
  simp only [bind_assoc]
  iintro ⟨%X, H⟩ Hk
  iapply (wp_ld c) $$ H; iintro H
  iapply (wp_st c) $$ H
  iintro %Y %hY H
  iapply Hk
  unfold half
  iexists Y
  isplitr
  · ipureintro
    intro i hi
    have hb : i 0 = (0 : Fin 2) := Fin.ext hi
    have e : I.part c n i = partP (I.headAcc c n 0 4) (ix3 0 (i 1) (i 2)) := by
      unfold Inp.part; rw [hb]
    rw [e, ← hY.1]
    exact congrArg Y (emb_rP 0 i hi)
  · iexact H

/-- The store of batch 1. -/
theorem put_one {n : Fin 8} {Y Z : Vec F S2x256x512 .bf16} (h : ∀ i, (i 0).val = 0 → Y i = I.part c n i)
    (hZ : (∀ j, Z ((rP 1).emb j) = partP (I.headAcc c n 1 4) j) ∧ ∀ i, i ∉ (rP 1).set → Z i = Y i) : Z = I.part c n := by
  funext i
  by_cases hi : (i 0).val = 0
  · rw [hZ.2 i, h i hi]
    intro hm
    obtain ⟨j, rfl⟩ := (rP 1).exists_idx_of_mem hm
    rw [show (rP 1).idx j = (rP 1).emb j from rfl, unit_val] at hi
    exact absurd hi (by show ¬ (1 + _ = 0); omega)
  · have h1 : (i 0).val = 1 := by have : (i 0).val < 2 := (i 0).isLt; omega
    have hb : i 0 = (1 : Fin 2) := Fin.ext h1
    have e : I.part c n i = partP (I.headAcc c n 1 4) (ix3 0 (i 1) (i 2)) := by
      unfold Inp.part; rw [hb]
    rw [e, ← hZ.1]
    exact congrArg Z (emb_rP 1 i h1)

theorem wp_putP1 {m : Memref sig .tc .vmem S2x256x512 .bf16} {hm : m.IsWhole} (n : Fin 8) {k : PUnit → TP α} :
    half I c m n
      ⊢ iprop((owns (c : Thread nD τ) m fullShare (I.part c n) -∗ WP c (k ⟨⟩) Q) -∗ WP c (putP m hm 1 (partP (I.headAcc c n 1 4)) >>= k) Q) := by
  unfold putP half
  simp only [bind_assoc]
  iintro ⟨%X, %h, H⟩ Hk
  iapply (wp_ld c) $$ H; iintro H
  iapply (wp_st c) $$ H
  iintro %Y %hY H
  obtain rfl := put_one I c h hY
  iapply Hk $$ H

/-! ## The chunks -/

theorem wp_chunkA {k : PUnit → TP α} :
    iprop((∃ X, owns (c : Thread nD τ) pcA fullShare X) ∗ att I c)
      ⊢ iprop((owns (c : Thread nD τ) pcA fullShare (I.part c (blk c 3)) -∗ att I c -∗ WP c (k ⟨⟩) Q) -∗ WP c (chunkA c >>= k) Q) := by
  unfold chunkA
  simp only [bind_assoc]
  iintro ⟨H, A⟩ Hk
  iapply (wp_loop1 I c) $$ A; iintro A
  iapply (wp_putP0 I c (blk c 3)) $$ H; iintro H
  iapply (wp_loop2 I c) $$ A; iintro A
  iapply (wp_putP1 I c (blk c 3)) $$ H; iintro H
  iapply Hk $$ H A

theorem wp_chunkB {k : FVec F S2x128x512 .f32 → TP α} :
    iprop((∃ X, owns (c : Thread nD τ) pcB fullShare X) ∗ att I c ∗ Comm I c 9 {0, 1, 2, 3, 4, 5, 6} {0, 1, 2, 3, 4, 5, 6})
      ⊢ iprop((owns (c : Thread nD τ) pcB fullShare (I.part c (blk c 1)) -∗ att I c
          -∗ Comm I c 9 {0, 1, 2, 3, 4, 5, 6} (insert 7 {0, 1, 2, 3, 4, 5, 6})
          -∗ owns (c : Thread nD τ) (sl3 rsR 0) fullShare (I.s7 (prv c)) -∗ WP c (k (k0_pay186 (unsq (I.s7 (prv c))))) Q)
        -∗ WP c (chunkB c >>= k) Q) := by
  unfold chunkB
  simp only [bind_assoc]
  iintro ⟨H, A, C⟩ Hk
  iapply (wp_loop3 I c) $$ A; iintro A
  iapply (wp_putP0 I c (blk c 1)) $$ H; iintro H
  iapply (wp_loop4 I c) $$ A; iintro A
  iapply (wp_putP1 I c (blk c 1)) $$ H; iintro H
  iapply (wp_waitR I c 7 9 _ _ (by decide) (by decide)) $$ C
  iintro C d
  ihave d := (Entails.of_eq (show (owns (c : Thread nD τ) (dstM 7) fullShare (I.sent (from_ c 7) 7) : SP F)
    = owns (c : Thread nD τ) (sl3 rsR 0) fullShare (I.s7 (prv c)) from rfl)) $$ d
  iapply (wp_ld3 c) $$ d; iintro d
  rw [pure_bind]
  iapply Hk $$ H A C d

theorem wp_chunkC {k : PUnit → TP α} :
    iprop((∃ X, owns (c : Thread nD τ) pcA fullShare X) ∗ att I c)
      ⊢ iprop((owns (c : Thread nD τ) pcA fullShare (I.part c (blk c 5)) -∗ att I c -∗ WP c (k ⟨⟩) Q)
        -∗ WP c (chunkC c >>= fun r => stP1 r >>= k) Q) := by
  unfold chunkC stP1
  simp only [bind_assoc]
  iintro ⟨H, A⟩ Hk
  iapply (wp_loop5 I c) $$ A; iintro A
  iapply (wp_putP0 I c (blk c 5)) $$ H; iintro H
  iapply (wp_loop6 I c) $$ A; iintro A
  unfold half
  icases H with ⟨%X, %h, H⟩
  iapply (wp_ld c) $$ H; iintro H
  rw [pure_bind]
  iapply (wp_st c) $$ H
  iintro %Y %hY H
  obtain rfl := put_one I c h hY
  iapply Hk $$ H A

theorem wp_chunkD {k : PUnit → TP α} :
    iprop((∃ X, owns (c : Thread nD τ) pcB fullShare X) ∗ att I c)
      ⊢ iprop((owns (c : Thread nD τ) pcB fullShare (I.part c (blk c 7)) -∗ att I c -∗ WP c (k ⟨⟩) Q)
        -∗ WP c (chunkD c >>= fun r => putP pcB (Memref.isWhole_whole _) 1 (k0_pay203 r) >>= k) Q) := by
  unfold chunkD
  simp only [bind_assoc]
  iintro ⟨H, A⟩ Hk
  iapply (wp_loop7 I c) $$ A; iintro A
  iapply (wp_putP0 I c (blk c 7)) $$ H; iintro H
  iapply (wp_loop8 I c) $$ A; iintro A
  rw [pure_bind]
  iapply (wp_putP1 I c (blk c 7)) $$ H; iintro H
  iapply Hk $$ H A

/-! ## Half a partial product -/

theorem wp_ldLo {m : Memref sig .tc .vmem S2x256x512 .bf16} {q : PosShare TreeShare} {X : Vec F S2x256x512 .bf16} {k : Vec F S2x128x512 .bf16 → TP α} :
    (owns (c : Thread nD τ) m q X : SP F) ⊢ iprop((owns (c : Thread nD τ) m q X -∗ WP c (k (lo X)) Q) -∗ WP c (ldLo m >>= k) Q) := by
  have e : (fun j => X (rlo.emb j)) = lo X := by
    funext j; refine congrArg X (funext fun a => Fin.ext ?_)
    rw [unit_val]; fin_cases a <;> exact Nat.zero_add _
  rw [← e]; exact wp_ld c
theorem wp_ldHi {m : Memref sig .tc .vmem S2x256x512 .bf16} {q : PosShare TreeShare} {X : Vec F S2x256x512 .bf16} {k : Vec F S2x128x512 .bf16 → TP α} :
    (owns (c : Thread nD τ) m q X : SP F) ⊢ iprop((owns (c : Thread nD τ) m q X -∗ WP c (k (hi X)) Q) -∗ WP c (ldHi m >>= k) Q) := by
  have e : (fun j => X (rhi.emb j)) = hi X := by
    funext j; refine congrArg X (funext fun a => Fin.ext ?_)
    rw [unit_val]; fin_cases a
    · exact Nat.zero_add _
    · rfl
    · exact Nat.zero_add _
  rw [← e]; exact wp_ld c

/-- The two halves of a partial product's buffer, as one family. -/
theorem inbH (t : Fin 2) : ∀ a, (![0, 128 * t.val, 0] : Fin 3 → Nat) a + S2x128x512.size a ≤ S2x256x512.size a := by revert t; decide
abbrev rH (t : Fin 2) : Rect S2x256x512 := Rect.unit (s := S2x256x512) ![0, 128 * t.val, 0] S2x128x512.size (inbH t)

theorem rH_disj (t t' : Fin 2) (h : t ≠ t') : Disjoint (rH t).set (rH t').set := by
  rw [Finset.disjoint_left]
  intro i hi hi'
  obtain ⟨j, rfl⟩ := (rH t).exists_idx_of_mem hi
  obtain ⟨j', e⟩ := (rH t').exists_idx_of_mem hi'
  have e1 := congrArg Fin.val (congrFun e 1)
  rw [show (rH t').idx j' = (rH t').emb j' from rfl, show (rH t).idx j = (rH t).emb j from rfl, unit_val, unit_val] at e1
  have h1 : (j 1).val < 128 := (j 1).isLt
  have h2 : (j' 1).val < 128 := (j' 1).isLt
  have e2 : 128 * t'.val + (j' 1).val = 128 * t.val + (j 1).val := e1
  exact h (Fin.ext (by omega))
theorem rH_cover : (Finset.univ : Finset (Fin 2)).biUnion (fun t => (rH t).set) = Finset.univ := by
  ext i
  simp only [Finset.mem_univ, Finset.mem_biUnion, true_and, iff_true]
  have h0 : (i 1).val < 256 := (i 1).isLt
  obtain ⟨t, ht⟩ : ∃ t : Fin 2, t.val = (i 1).val / 128 := ⟨⟨(i 1).val / 128, by omega⟩, rfl⟩
  refine ⟨t, ?_⟩
  have e : i = (rH t).emb (ix3 (i 0) ⟨(i 1).val % 128, Nat.mod_lt _ (by decide)⟩ (i 2)) := by
    funext a; apply Fin.ext; rw [unit_val]
    fin_cases a
    · exact (Nat.zero_add _).symm
    · show (i 1).val = 128 * t.val + (i 1).val % 128
      omega
    · exact (Nat.zero_add _).symm
  rw [e]
  rw [← Rect.map_emb_univ]; exact Finset.mem_map_of_mem _ (Finset.mem_univ _)

theorem pcA_split (X : Vec F S2x256x512 .bf16) :
    (owns (c : Thread nD τ) pcA fullShare X : SP F) ⊢ iprop(owns (c : Thread nD τ) pcLo fullShare (lo X) ∗ owns (c : Thread nD τ) pcHi fullShare (hi X)) := by
  have e1 : (fun j => X ((rH 0).emb j)) = lo X := by
    funext j; refine congrArg X (funext fun a => Fin.ext ?_)
    rw [unit_val]; fin_cases a <;> exact Nat.zero_add _
  have e2 : (fun j => X ((rH 1).emb j)) = hi X := by
    funext j; refine congrArg X (funext fun a => Fin.ext ?_)
    rw [unit_val]; fin_cases a
    · exact Nat.zero_add _
    · rfl
    · exact Nat.zero_add _
  have h := owns_rects (Ix := Unit) (Name := ℕ) (U := UU) (Lvl := ℕ) (c : Thread nD τ) pcA fullShare rH (fun _ _ => rfl) rH_disj rH_cover X
  refine h.trans ?_
  rw [bigSep_univ_eq_bigSepL [0, 1] (by decide) (by decide), ← e1, ← e2]
  exact .rfl

theorem pcA_join (A B : Vec F S2x128x512 .bf16) :
    iprop(owns (c : Thread nD τ) pcLo fullShare A ∗ owns (c : Thread nD τ) pcHi fullShare B) ⊢ (iprop(∃ X, owns (c : Thread nD τ) pcA fullShare X) : SP F) := by
  let X : Vec F S2x256x512 .bf16 := fun i =>
    if (i 1).val < 128 then A (ix3 (i 0) ⟨(i 1).val % 128, Nat.mod_lt _ (by decide)⟩ (i 2))
    else B (ix3 (i 0) ⟨(i 1).val % 128, Nat.mod_lt _ (by decide)⟩ (i 2))
  have e1 : (fun j => X ((rH 0).emb j)) = A := by
    funext j
    have h : (j 1).val < 128 := (j 1).isLt
    have hv : ((rH 0).emb j 1).val = (j 1).val := (unit_val _ j 1).trans (Nat.zero_add _)
    show (if ((rH 0).emb j 1).val < 128 then _ else _) = _
    rw [if_pos (hv ▸ h)]
    refine congrArg A (funext fun a => Fin.ext ?_)
    fin_cases a
    · exact (unit_val _ j 0).trans (Nat.zero_add _)
    · show ((rH 0).emb j 1).val % 128 = (j 1).val
      rw [hv, Nat.mod_eq_of_lt h]
    · exact (unit_val _ j 2).trans (Nat.zero_add _)
  have e2 : (fun j => X ((rH 1).emb j)) = B := by
    funext j
    have h : (j 1).val < 128 := (j 1).isLt
    have hv : ((rH 1).emb j 1).val = 128 + (j 1).val := unit_val _ j 1
    show (if ((rH 1).emb j 1).val < 128 then _ else _) = _
    rw [if_neg (by omega)]
    refine congrArg B (funext fun a => Fin.ext ?_)
    fin_cases a
    · exact (unit_val _ j 0).trans (Nat.zero_add _)
    · show ((rH 1).emb j 1).val % 128 = (j 1).val
      omega
    · exact (unit_val _ j 2).trans (Nat.zero_add _)
  have h := owns_of_rects (Ix := Unit) (Name := ℕ) (U := UU) (Lvl := ℕ) (c : Thread nD τ) pcA fullShare rH (fun _ _ => rfl) rH_disj rH_cover X
  rw [bigSep_univ_eq_bigSepL [0, 1] (by decide) (by decide)] at h
  have h' : iprop(owns (c : Thread nD τ) pcLo fullShare A ∗ owns (c : Thread nD τ) pcHi fullShare B) ⊢ (owns (c : Thread nD τ) pcA fullShare X : SP F) := by
    rw [← e1, ← e2]; exact h
  iintro H
  iexists X
  iapply h' $$ H

end Cert.KernelIdeal.Gen.Mine
-- ==== Proof.Run.lean ====
module

public import proofs.«01_k».proof.Proof.Chunks

/-! # The body of one device -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ
local notation "TP" => Prog (TpuEff nD τ sig (Elt F) Λ₀ Proc.tc)

variable (I : Inp F) (c : Dev nD) {α : Type} {Q : α → SP F}

/-! ## Sums put back in a slot -/

theorem wp_accR {h : Fin 3} {a w : Vec F S2x128x512 .bf16} {k : PUnit → TP α} :
    (owns (c : Thread nD τ) (sl3 rsR h) fullShare a : SP F)
      ⊢ iprop((owns (c : Thread nD τ) (sl3 rsR h) fullShare (Inp.add a w) -∗ WP c (k ⟨⟩) Q)
        -∗ WP c (accR h (k0_pay186 (unsq a)) w >>= k) Q) := by
  unfold accR
  simp only [bind_assoc]
  iintro H Hk
  iapply (wp_ld3 c) $$ H; iintro H
  iapply (wp_st3 c) $$ H; iintro H
  iapply Hk $$ [H]; iexact H
theorem wp_accL {h : Fin 4} {a w : Vec F S2x128x512 .bf16} {k : PUnit → TP α} :
    (owns (c : Thread nD τ) (sl4 rsL h) fullShare a : SP F)
      ⊢ iprop((owns (c : Thread nD τ) (sl4 rsL h) fullShare (Inp.add a w) -∗ WP c (k ⟨⟩) Q)
        -∗ WP c (accL h (unsq a) w >>= k) Q) := by
  unfold accL
  simp only [bind_assoc]
  iintro H Hk
  iapply (wp_ld4 c) $$ H; iintro H
  iapply (wp_st4 c) $$ H; iintro H
  iapply Hk $$ [H]; iexact H

/-- The last sums: the result's block. -/
theorem wp_finish {a5 : Memref sig .tc .vmem S2x128x512 .f32} {k : PUnit → TP α} :
    iprop(owns (c : Thread nD τ) pcB fullShare (I.part c (blk c 7)) ∗ owns (c : Thread nD τ) (sl3 rsR 2) fullShare (I.s11 (prv c))
        ∗ owns (c : Thread nD τ) (sl4 rsL 3) fullShare (I.s13 (nxt c)) ∗ (∃ X, owns (c : Thread nD τ) a5 fullShare X))
      ⊢ iprop((owns (c : Thread nD τ) pcB fullShare (I.part c (blk c 7)) -∗ owns (c : Thread nD τ) (sl3 rsR 2) fullShare (I.s11 (prv c))
          -∗ owns (c : Thread nD τ) (sl4 rsL 3) fullShare (I.s13 (nxt c)) -∗ owns (c : Thread nD τ) a5 fullShare (I.out c) -∗ WP c (k ⟨⟩) Q)
        -∗ WP c (finishP a5 >>= k) Q) := by
  unfold finishP
  simp only [bind_assoc]
  iintro ⟨P, R, L, ⟨%X, A⟩⟩ Hk
  iapply (wp_ldHi c) $$ P; iintro P
  iapply (wp_ld3 c) $$ R; iintro R
  iapply (wp_ld4 c) $$ L; iintro L
  iapply (wp_ldX c) $$ A; iintro A
  iapply (wp_stX c) $$ A; iintro A
  iapply Hk $$ P R L [A]; iexact A

/-! ## The whole body -/

/-- Every slot a transfer writes, at some contents. -/
theorem slots_intro : (iprop((∃ Y, owns (c : Thread nD τ) (dstM 0) fullShare Y) ∗ (∃ Y, owns (c : Thread nD τ) (dstM 1) fullShare Y) ∗ (∃ Y, owns (c : Thread nD τ) (dstM 2) fullShare Y) ∗ (∃ Y, owns (c : Thread nD τ) (dstM 3) fullShare Y) ∗ (∃ Y, owns (c : Thread nD τ) (dstM 4) fullShare Y) ∗ (∃ Y, owns (c : Thread nD τ) (dstM 5) fullShare Y) ∗ (∃ Y, owns (c : Thread nD τ) (dstM 6) fullShare Y) ∗ (∃ Y, owns (c : Thread nD τ) (dstM 7) fullShare Y) ∗ (∃ Y, owns (c : Thread nD τ) (dstM 8) fullShare Y) ∗ (∃ Y, owns (c : Thread nD τ) (dstM 9) fullShare Y) ∗ (∃ Y, owns (c : Thread nD τ) (dstM 10) fullShare Y) ∗ (∃ Y, owns (c : Thread nD τ) (dstM 11) fullShare Y) ∗ (∃ Y, owns (c : Thread nD τ) (dstM 12) fullShare Y) ∗ (∃ Y, owns (c : Thread nD τ) (dstM 13) fullShare Y)) : SP F) ⊢ slots c := by
  unfold slots
  rw [bigSep_univ_eq_bigSepL [0, 1, 2, 3, 4, 5, 6, 7, 8, 9, 10, 11, 12, 13] (by decide) (by decide)]
  exact .rfl

/-- Everything after the device has read its own number. -/
theorem wp_myTail {a0 : Memref sig .tc .vmem S2x128x512 .f32} {a1 a2 a3 a4 : Memref sig .tc .vmem S512x512 .f32}
    {a5 : Memref sig .tc .vmem S2x128x512 .f32} {k : PUnit → TP α} :
    iprop(PreComm I c ∗ slots c ∗ args I c a0 a1 a2 a3 a4 ∗ (∃ X, owns (c : Thread nD τ) a5 fullShare X)
        ∗ (∃ X, owns (c : Thread nD τ) x16 fullShare X) ∗ (∃ X, owns (c : Thread nD τ) qbuf fullShare X)
        ∗ (∃ X, owns (c : Thread nD τ) kbuf fullShare X) ∗ (∃ X, owns (c : Thread nD τ) vbuf fullShare X)
        ∗ (∃ X, owns (c : Thread nD τ) pcA fullShare X) ∗ (∃ X, owns (c : Thread nD τ) pcB fullShare X)
        ∗ (∃ X, owns (c : Thread nD τ) wqkv fullShare X) ∗ (∃ X, owns (c : Thread nD τ) wo16 fullShare X))
      ⊢ iprop((Comm I c 14 Finset.univ Finset.univ -∗ semVal (barCell c) 0 -∗ args I c a0 a1 a2 a3 a4
          -∗ owns (c : Thread nD τ) a5 fullShare (I.out c) -∗ slots c
          -∗ (∃ X, owns (c : Thread nD τ) x16 fullShare X) -∗ (∃ X, owns (c : Thread nD τ) qbuf fullShare X)
          -∗ (∃ X, owns (c : Thread nD τ) kbuf fullShare X) -∗ (∃ X, owns (c : Thread nD τ) vbuf fullShare X)
          -∗ (∃ X, owns (c : Thread nD τ) pcA fullShare X) -∗ (∃ X, owns (c : Thread nD τ) pcB fullShare X)
          -∗ (∃ X, owns (c : Thread nD τ) wqkv fullShare X) -∗ (∃ X, owns (c : Thread nD τ) wo16 fullShare X) -∗ WP c (k ⟨⟩) Q)
        -∗ WP c (myTail c a0 a1 a2 a3 a4 a5 >>= k) Q) := by
  unfold myTail tail42
  simp only [bind_assoc]
  iintro ⟨PC, SL, AR, A5, HX, HQ, HK, HV, PA, PB, HW, HO⟩ Hk
  iapply (wp_barrier I c) $$ [PC SL]
  · isplitl [PC]; · iexact PC
    iexact SL
  iintro C BAR
  iapply (wp_round I c) $$ [AR HX HW HO]
  · isplitl [AR]; · iexact AR
    isplitl [HX]; · iexact HX
    isplitl [HW]; · iexact HW
    iexact HO
  iintro AR HX HW HO
  ihave T := (qkvs_none I c) $$ [HQ HK HV]
  · isplitl [HQ]; · iexact HQ
    isplitl [HK]; · iexact HK
    iexact HV
  iapply (wp_gather I c) $$ [C HX T HW]
  · isplitl [C]; · iexact C
    isplitl [HX]; · iexact HX
    isplitl [T]; · iexact T
    iexact HW
  iintro C HX d0 d1 d2 d3 d4 d5 d6 HQ HK HV HW
  ihave A := (show iprop(owns (c : Thread nD τ) qbuf fullShare (I.qF c) ∗ owns (c : Thread nD τ) kbuf fullShare (I.kF c)
    ∗ owns (c : Thread nD τ) vbuf fullShare (I.vF c) ∗ owns (c : Thread nD τ) wo16 fullShare (I.wob c)) ⊢ att I c from .rfl) $$ [HQ HK HV HO]
  · isplitl [HQ]; · iexact HQ
    isplitl [HK]; · iexact HK
    isplitl [HV]; · iexact HV
    iexact HO
  iapply (wp_chunkA I c) $$ [PA A]
  · isplitl [PA]; · iexact PA
    iexact A
  iintro PA A
  ihave PA := (pcA_split c _) $$ PA
  icases PA with ⟨PL, PH⟩
  iapply (wp_sendN I c 7 7 8 rfl rfl ({0, 1, 2, 3, 4, 5, 6}) ({0, 1, 2, 3, 4, 5, 6}) (by decide)) $$ [C PL]
  · isplitl [C]; · iexact C
    iexact PL
  iintro C
  iapply (wp_sendN I c 8 8 9 rfl rfl ({0, 1, 2, 3, 4, 5, 6}) ({0, 1, 2, 3, 4, 5, 6}) (by decide)) $$ [C PH]
  · isplitl [C]; · iexact C
    iexact PH
  iintro C
  iapply (wp_chunkB I c) $$ [PB A C]
  · isplitl [PB]; · iexact PB
    isplitl [A]; · iexact A
    iexact C
  iintro PB A C d7
  iapply (wp_ldHi c) $$ PB; iintro PB
  iapply (wp_accR c) $$ d7; iintro d7
  iapply (wp_sendN I c 9 9 10 rfl rfl ({0, 1, 2, 3, 4, 5, 6}) (insert 7 ({0, 1, 2, 3, 4, 5, 6})) (by decide)) $$ [C d7]
  · isplitl [C]; · iexact C
    iexact d7
  iintro C
  iapply (wp_waitS I c 7 10 ({0, 1, 2, 3, 4, 5, 6}) (insert 7 ({0, 1, 2, 3, 4, 5, 6})) (by decide) (by decide)) $$ C
  iintro C e
  ihave PL := (show (owns (c : Thread nD τ) (srcM 7) (qsh 7) (I.sent c 7) : SP F) ⊢ (owns (c : Thread nD τ) pcLo fullShare (I.s7 c) : SP F) from .rfl) $$ e
  iapply (wp_waitS I c 8 10 (insert 7 ({0, 1, 2, 3, 4, 5, 6})) (insert 7 ({0, 1, 2, 3, 4, 5, 6})) (by decide) (by decide)) $$ C
  iintro C e
  ihave PH := (show (owns (c : Thread nD τ) (srcM 8) (qsh 8) (I.sent c 8) : SP F) ⊢ (owns (c : Thread nD τ) pcHi fullShare (I.s8 c) : SP F) from .rfl) $$ e
  ihave PA := (pcA_join c _ _) $$ [PL PH]
  · isplitl [PL]; · iexact PL
    iexact PH
  iapply (wp_chunkC I c) $$ [PA A]
  · isplitl [PA]; · iexact PA
    iexact A
  iintro PA A
  iapply (wp_waitR I c 8 10 (insert 8 (insert 7 ({0, 1, 2, 3, 4, 5, 6}))) (insert 7 ({0, 1, 2, 3, 4, 5, 6})) (by decide) (by decide)) $$ C
  iintro C d8
  ihave d8 := (show got I c 8 ⊢ (owns (c : Thread nD τ) (sl4 rsL 0) fullShare (I.s8 (nxt c)) : SP F) from .rfl) $$ d8
  iapply (wp_ld4 c) $$ d8; iintro d8
  iapply (wp_ldLo c) $$ PA; iintro PA
  iapply (wp_accL c) $$ d8; iintro d8
  iapply (wp_sendN I c 10 10 11 rfl rfl (insert 8 (insert 7 ({0, 1, 2, 3, 4, 5, 6}))) (insert 8 (insert 7 ({0, 1, 2, 3, 4, 5, 6}))) (by decide)) $$ [C d8]
  · isplitl [C]; · iexact C
    iexact d8
  iintro C
  iapply (wp_waitR I c 9 11 (insert 8 (insert 7 ({0, 1, 2, 3, 4, 5, 6}))) (insert 8 (insert 7 ({0, 1, 2, 3, 4, 5, 6}))) (by decide) (by decide)) $$ C
  iintro C d9
  ihave d9 := (show got I c 9 ⊢ (owns (c : Thread nD τ) (sl3 rsR 1) fullShare (I.s9 (prv c)) : SP F) from .rfl) $$ d9
  iapply (wp_ld3 c) $$ d9; iintro d9
  iapply (wp_ldLo c) $$ PB; iintro PB
  iapply (wp_accR c) $$ d9; iintro d9
  iapply (wp_sendN I c 11 11 12 rfl rfl (insert 8 (insert 7 ({0, 1, 2, 3, 4, 5, 6}))) (insert 9 (insert 8 (insert 7 ({0, 1, 2, 3, 4, 5, 6})))) (by decide)) $$ [C d9]
  · isplitl [C]; · iexact C
    iexact d9
  iintro C
  iapply (wp_waitR I c 10 12 (insert 8 (insert 7 ({0, 1, 2, 3, 4, 5, 6}))) (insert 9 (insert 8 (insert 7 ({0, 1, 2, 3, 4, 5, 6})))) (by decide) (by decide)) $$ C
  iintro C d10
  ihave d10 := (show got I c 10 ⊢ (owns (c : Thread nD τ) (sl4 rsL 1) fullShare (I.s10 (nxt c)) : SP F) from .rfl) $$ d10
  iapply (wp_ld4 c) $$ d10; iintro d10
  iapply (wp_ldHi c) $$ PA; iintro PA
  iapply (wp_accL c) $$ d10; iintro d10
  iapply (wp_sendN I c 12 12 13 rfl rfl (insert 8 (insert 7 ({0, 1, 2, 3, 4, 5, 6}))) (insert 10 (insert 9 (insert 8 (insert 7 ({0, 1, 2, 3, 4, 5, 6}))))) (by decide)) $$ [C d10]
  · isplitl [C]; · iexact C
    iexact d10
  iintro C
  iapply (wp_chunkD I c) $$ [PB A]
  · isplitl [PB]
    · iexists _; iexact PB
    iexact A
  iintro PB A
  iapply (wp_waitR I c 12 13 (insert 8 (insert 7 ({0, 1, 2, 3, 4, 5, 6}))) (insert 10 (insert 9 (insert 8 (insert 7 ({0, 1, 2, 3, 4, 5, 6}))))) (by decide) (by decide)) $$ C
  iintro C d12
  ihave d12 := (show got I c 12 ⊢ (owns (c : Thread nD τ) (sl4 rsL 2) fullShare (I.s12 (nxt c)) : SP F) from .rfl) $$ d12
  iapply (wp_ld4 c) $$ d12; iintro d12
  iapply (wp_ldLo c) $$ PB; iintro PB
  iapply (wp_accL c) $$ d12; iintro d12
  iapply (wp_sendN I c 13 13 14 rfl rfl (insert 8 (insert 7 ({0, 1, 2, 3, 4, 5, 6}))) (insert 12 (insert 10 (insert 9 (insert 8 (insert 7 ({0, 1, 2, 3, 4, 5, 6})))))) (by decide)) $$ [C d12]
  · isplitl [C]; · iexact C
    iexact d12
  iintro C
  iapply (wp_waitR I c 11 14 (insert 8 (insert 7 ({0, 1, 2, 3, 4, 5, 6}))) (insert 12 (insert 10 (insert 9 (insert 8 (insert 7 ({0, 1, 2, 3, 4, 5, 6})))))) (by decide) (by decide)) $$ C
  iintro C d11
  ihave d11 := (show got I c 11 ⊢ (owns (c : Thread nD τ) (sl3 rsR 2) fullShare (I.s11 (prv c)) : SP F) from .rfl) $$ d11
  iapply (wp_waitR I c 13 14 (insert 8 (insert 7 ({0, 1, 2, 3, 4, 5, 6}))) (insert 11 (insert 12 (insert 10 (insert 9 (insert 8 (insert 7 ({0, 1, 2, 3, 4, 5, 6}))))))) (by decide) (by decide)) $$ C
  iintro C d13
  ihave d13 := (show got I c 13 ⊢ (owns (c : Thread nD τ) (sl4 rsL 3) fullShare (I.s13 (nxt c)) : SP F) from .rfl) $$ d13
  iapply (wp_finish I c) $$ [PB d11 d13 A5]
  · isplitl [PB]; · iexact PB
    isplitl [d11]; · iexact d11
    isplitl [d13]; · iexact d13
    iexact A5
  iintro PB d11 d13 A5
  iapply (wp_waitS I c 9 14 (insert 8 (insert 7 ({0, 1, 2, 3, 4, 5, 6}))) (insert 13 (insert 11 (insert 12 (insert 10 (insert 9 (insert 8 (insert 7 ({0, 1, 2, 3, 4, 5, 6})))))))) (by decide) (by decide)) $$ C
  iintro C e
  ihave d7 := (show (owns (c : Thread nD τ) (srcM 9) (qsh 9) (I.sent c 9) : SP F) ⊢ (owns (c : Thread nD τ) (sl3 rsR 0) fullShare (I.s9 c) : SP F) from .rfl) $$ e
  iapply (wp_waitS I c 11 14 (insert 9 (insert 8 (insert 7 ({0, 1, 2, 3, 4, 5, 6})))) (insert 13 (insert 11 (insert 12 (insert 10 (insert 9 (insert 8 (insert 7 ({0, 1, 2, 3, 4, 5, 6})))))))) (by decide) (by decide)) $$ C
  iintro C e
  ihave d9 := (show (owns (c : Thread nD τ) (srcM 11) (qsh 11) (I.sent c 11) : SP F) ⊢ (owns (c : Thread nD τ) (sl3 rsR 1) fullShare (I.s11 c) : SP F) from .rfl) $$ e
  iapply (wp_waitS I c 10 14 (insert 11 (insert 9 (insert 8 (insert 7 ({0, 1, 2, 3, 4, 5, 6}))))) (insert 13 (insert 11 (insert 12 (insert 10 (insert 9 (insert 8 (insert 7 ({0, 1, 2, 3, 4, 5, 6})))))))) (by decide) (by decide)) $$ C
  iintro C e
  ihave d8 := (show (owns (c : Thread nD τ) (srcM 10) (qsh 10) (I.sent c 10) : SP F) ⊢ (owns (c : Thread nD τ) (sl4 rsL 0) fullShare (I.s10 c) : SP F) from .rfl) $$ e
  iapply (wp_waitS I c 12 14 (insert 10 (insert 11 (insert 9 (insert 8 (insert 7 ({0, 1, 2, 3, 4, 5, 6})))))) (insert 13 (insert 11 (insert 12 (insert 10 (insert 9 (insert 8 (insert 7 ({0, 1, 2, 3, 4, 5, 6})))))))) (by decide) (by decide)) $$ C
  iintro C e
  ihave d10 := (show (owns (c : Thread nD τ) (srcM 12) (qsh 12) (I.sent c 12) : SP F) ⊢ (owns (c : Thread nD τ) (sl4 rsL 1) fullShare (I.s12 c) : SP F) from .rfl) $$ e
  iapply (wp_waitS I c 13 14 (insert 12 (insert 10 (insert 11 (insert 9 (insert 8 (insert 7 ({0, 1, 2, 3, 4, 5, 6}))))))) (insert 13 (insert 11 (insert 12 (insert 10 (insert 9 (insert 8 (insert 7 ({0, 1, 2, 3, 4, 5, 6})))))))) (by decide) (by decide)) $$ C
  iintro C e
  ihave d12 := (show (owns (c : Thread nD τ) (srcM 13) (qsh 13) (I.sent c 13) : SP F) ⊢ (owns (c : Thread nD τ) (sl4 rsL 2) fullShare (I.s13 c) : SP F) from .rfl) $$ e
  icases A with ⟨HQ, HK, HV, HO⟩
  iapply Hk $$ [C] BAR AR A5 [d0 d1 d2 d3 d4 d5 d6 d7 d8 d9 d10 d11 d12 d13] [HX] [HQ] [HK] [HV] [PA] [PB] [HW] [HO]
  · have eS : (insert 13 (insert 12 (insert 10 (insert 11 (insert 9 (insert 8 (insert 7 ({0, 1, 2, 3, 4, 5, 6}))))))) : Finset (Fin 14)) = Finset.univ := by decide
    have eR : (insert 13 (insert 11 (insert 12 (insert 10 (insert 9 (insert 8 (insert 7 ({0, 1, 2, 3, 4, 5, 6}))))))) : Finset (Fin 14)) = Finset.univ := by decide
    rw [eS, eR]
    iexact C
  · iapply (slots_intro c)
    isplitl [d0]; · iexists _; iexact d0
    isplitl [d1]; · iexists _; iexact d1
    isplitl [d2]; · iexists _; iexact d2
    isplitl [d3]; · iexists _; iexact d3
    isplitl [d4]; · iexists _; iexact d4
    isplitl [d5]; · iexists _; iexact d5
    isplitl [d6]; · iexists _; iexact d6
    isplitl [d7]; · iexists _; iexact d7
    isplitl [d8]; · iexists _; iexact d8
    isplitl [d9]; · iexists _; iexact d9
    isplitl [d10]; · iexists _; iexact d10
    isplitl [d11]; · iexists _; iexact d11
    isplitl [d12]; · iexists _; iexact d12
    iexists _; iexact d13
  · iexists _; iexact HX
  · iexists _; iexact HQ
  · iexists _; iexact HK
  · iexists _; iexact HV
  · iexists _; iexact PA
  · iexists _; iexact PB
  · iexists _; iexact HW
  · iexists _; iexact HO

end Cert.KernelIdeal.Gen.Mine
-- ==== Proof.Slots.lean ====
module

public import proofs.«01_k».proof.Proof.Run
public import Idealize.ShloMosaic.Lib.Ring

/-! # The buffers a device starts with and gives back -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ
local notation "TP" => Prog (TpuEff nD τ sig (Elt F) Λ₀ Proc.tc)

variable (c : Dev nD)

/-! ## Scratch -/

/-- A scratch buffer at some contents, as its location's and as a whole block. -/
theorem whole_eq (b : Ref sig .tc) :
    (iprop(∃ f : Buf (Elt F) ((c : Thread nD τ).loc b), ((c : Thread nD τ).loc b) ↦{fullShare} f) : SP F)
      = iprop(∃ X, owns (c : Thread nD τ) (Memref.whole b) fullShare X) := by
  have h : ∀ f : Buf (Elt F) ((c : Thread nD τ).loc b), (((c : Thread nD τ).loc b) ↦{fullShare} f : SP F)
      = owns (c : Thread nD τ) (Memref.whole b) fullShare f := fun f => (owns_whole (c : Thread nD τ) b fullShare f).symm
  exact congrArg _ (funext h)

/-- A block at some contents is its elements at some contents. -/
theorem some_owns {s : Shape} {e : EltTy} (m : Memref sig .tc .vmem s e) :
    (iprop(∃ Y, owns (c : Thread nD τ) m fullShare Y) : SP F) ⊢ iprop(∃ f, m.view.loc (c : Thread nD τ) ↦[m.view.set]{fullShare} f) := by
  unfold owns
  iintro ⟨%Y, ⟨%f, -, H⟩⟩
  iexists f; iexact H
theorem owns_some {s : Shape} {e : EltTy} (m : Memref sig .tc .vmem s e) (f : m.view.ty.Contents (Elt F)) :
    (m.view.loc (c : Thread nD τ) ↦[m.view.set]{fullShare} f : SP F) ⊢ iprop(∃ Y, owns (c : Thread nD τ) m fullShare Y) := by
  unfold owns
  iintro H
  iexists _
  iexists f
  isplitr
  · ipureintro; rfl
  · iexact H

/-! ## Slots -/

theorem set_sl4 (b : Memref sig .tc .vmem S4x2x128x512 .bf16) (h : Fin 4) : (sl4 b h).view.set = (r4 h).set.map b.view.emb := by
  rw [show (sl4 b h).view.set = (b.view.slice (r4 h)).set from View.set_reshape _ _, View.set_slice]
theorem set_sl3 (b : Memref sig .tc .vmem S3x2x128x512 .bf16) (h : Fin 3) : (sl3 b h).view.set = (r3 h).set.map b.view.emb := by
  rw [show (sl3 b h).view.set = (b.view.slice (r3 h)).set from View.set_reshape _ _, View.set_slice]

theorem r4_disj (h h' : Fin 4) (hn : h ≠ h') : Disjoint (r4 h).set (r4 h').set :=
  Ring.lead_disjoint (s := S4x2x128x512) (0 : Fin 4) 1 (fun h : Fin 4 => ![h.val, 0, 0, 0]) S1x2x128x512.size inb4 (by decide) rfl h h' hn
theorem r4_cover : (Finset.univ : Finset (Fin 4)).biUnion (fun h => (r4 h).set) = Finset.univ :=
  Ring.lead_cover (s := S4x2x128x512) (0 : Fin 4) 1 (fun h : Fin 4 => ![h.val, 0, 0, 0]) S1x2x128x512.size inb4 (by decide) (by decide) rfl (by decide) rfl
theorem r3_disj (h h' : Fin 3) (hn : h ≠ h') : Disjoint (r3 h).set (r3 h').set :=
  Ring.lead_disjoint (s := S3x2x128x512) (0 : Fin (S3x2x128x512).rank) 1 (fun h : Fin 3 => ![h.val, 0, 0, 0]) S1x2x128x512.size inb3 (by decide) rfl h h' hn
theorem r3_cover : (Finset.univ : Finset (Fin 3)).biUnion (fun h => (r3 h).set) = Finset.univ :=
  Ring.lead_cover (s := S3x2x128x512) (0 : Fin (S3x2x128x512).rank) 1 (fun h : Fin 3 => ![h.val, 0, 0, 0]) S1x2x128x512.size inb3 (by decide) (by decide) rfl (by decide) rfl

/-- A buffer cut by a family of blocks: whole at some contents, so each block at some contents, -/
theorem cut {B : Type} [Fintype B] [DecidableEq B] {ℓ : Loc nD τ sig} (J : B → Finset (Idx ℓ)) (hd : ∀ b b', b ≠ b' → Disjoint (J b) (J b'))
    (hc : Finset.univ.biUnion J = Finset.univ) :
    (iprop(∃ f, ℓ ↦{fullShare} f) : SP F) ⊢ bigSep Finset.univ fun b => iprop(∃ f : Buf (Elt F) ℓ, ℓ ↦[J b]{fullShare} f) := by
  have key : ∀ f : Buf (Elt F) ℓ, ∀ b ∈ (Finset.univ : Finset B), (ℓ ↦[J b]{fullShare} f : SP F) ⊢ iprop(∃ f : Buf (Elt F) ℓ, ℓ ↦[J b]{fullShare} f) := by
    intro f b _
    iintro H; iexists f; iexact H
  have all : ∀ f : Buf (Elt F) ℓ, (ℓ ↦{fullShare} f : SP F) ⊢ bigSep Finset.univ fun b => iprop(∃ f : Buf (Elt F) ℓ, ℓ ↦[J b]{fullShare} f) := fun f => by
    rw [Ring.pointsTo_blocks J hd hc f]; exact bigSep_mono (key f)
  iintro ⟨%f, H⟩
  iapply (all f) $$ H

theorem sl4_cover (b : Memref sig .tc .vmem S4x2x128x512 .bf16) :
    (Finset.univ : Finset (Fin 4)).biUnion (fun h => (r4 h).set.map b.view.emb) = b.view.set := by
  rw [View.set, ← r4_cover]; ext i
  simp only [Finset.mem_biUnion, Finset.mem_univ, _root_.true_and, Finset.mem_map]
  exact ⟨fun ⟨h, x, hx, e⟩ => ⟨x, ⟨h, hx⟩, e⟩, fun ⟨x, ⟨h, hx⟩, e⟩ => ⟨h, x, hx, e⟩⟩

theorem slots4 (b : Memref sig .tc .vmem S4x2x128x512 .bf16) (hb : (b.view.set : Finset (Idx (b.view.loc (c : Thread nD τ)))) = Finset.univ) :
    (iprop(∃ f, b.view.loc (c : Thread nD τ) ↦{fullShare} f) : SP F)
      ⊢ iprop((∃ Y, owns (c : Thread nD τ) (sl4 b 0) fullShare Y) ∗ (∃ Y, owns (c : Thread nD τ) (sl4 b 1) fullShare Y)
        ∗ (∃ Y, owns (c : Thread nD τ) (sl4 b 2) fullShare Y) ∗ (∃ Y, owns (c : Thread nD τ) (sl4 b 3) fullShare Y)) := by
  have hd : ∀ h h' : Fin 4, h ≠ h' → Disjoint ((sl4 b h).view.set : Finset (Idx (b.view.loc (c : Thread nD τ)))) ((sl4 b h').view.set : Finset (Idx (b.view.loc (c : Thread nD τ)))) := fun h h' hn => by
    rw [set_sl4, set_sl4]; exact (Finset.disjoint_map _).mpr (r4_disj h h' hn)
  have hc : (Finset.univ : Finset (Fin 4)).biUnion (β := Idx (b.view.loc (c : Thread nD τ))) (fun h => ((sl4 b h).view.set : Finset (Idx (b.view.loc (c : Thread nD τ))))) = Finset.univ := by
    exact (Finset.biUnion_congr rfl fun h _ => set_sl4 b h).trans ((sl4_cover b).trans hb)
  refine (cut (ℓ := b.view.loc (c : Thread nD τ)) (fun h : Fin 4 => ((sl4 b h).view.set : Finset (Idx (b.view.loc (c : Thread nD τ))))) hd hc).trans ?_
  have key : ∀ h ∈ (Finset.univ : Finset (Fin 4)), (iprop(∃ f, b.view.loc (c : Thread nD τ) ↦[(sl4 b h).view.set]{fullShare} f) : SP F)
      ⊢ iprop(∃ Y, owns (c : Thread nD τ) (sl4 b h) fullShare Y) := by
    intro h _
    iintro ⟨%f, H⟩
    iapply (owns_some c (sl4 b h) f) $$ H
  refine (bigSep_mono key).trans ?_
  rw [bigSep_univ_eq_bigSepL [0, 1, 2, 3] (by decide) (by decide)]
  exact BI.Entails.refl _

theorem unslots4 (b : Memref sig .tc .vmem S4x2x128x512 .bf16) (hb : (b.view.set : Finset (Idx (b.view.loc (c : Thread nD τ)))) = Finset.univ) (f₀ : Buf (Elt F) (b.view.loc (c : Thread nD τ))) :
    iprop((∃ Y, owns (c : Thread nD τ) (sl4 b 0) fullShare Y) ∗ (∃ Y, owns (c : Thread nD τ) (sl4 b 1) fullShare Y)
        ∗ (∃ Y, owns (c : Thread nD τ) (sl4 b 2) fullShare Y) ∗ (∃ Y, owns (c : Thread nD τ) (sl4 b 3) fullShare Y))
      ⊢ (iprop(∃ f, b.view.loc (c : Thread nD τ) ↦{fullShare} f) : SP F) := by
  have hd : ∀ h h' : Fin 4, h ≠ h' → Disjoint ((sl4 b h).view.set : Finset (Idx (b.view.loc (c : Thread nD τ)))) ((sl4 b h').view.set : Finset (Idx (b.view.loc (c : Thread nD τ)))) := fun h h' hn => by
    rw [set_sl4, set_sl4]; exact (Finset.disjoint_map _).mpr (r4_disj h h' hn)
  have hc : (Finset.univ : Finset (Fin 4)).biUnion (β := Idx (b.view.loc (c : Thread nD τ))) (fun h => ((sl4 b h).view.set : Finset (Idx (b.view.loc (c : Thread nD τ))))) = Finset.univ := by
    exact (Finset.biUnion_congr rfl fun h _ => set_sl4 b h).trans ((sl4_cover b).trans hb)
  have key : ∀ h ∈ (Finset.univ : Finset (Fin 4)), (iprop(∃ Y, owns (c : Thread nD τ) (sl4 b h) fullShare Y) : SP F)
      ⊢ iprop(∃ f : Buf (Elt F) (b.view.loc (c : Thread nD τ)), b.view.loc (c : Thread nD τ) ↦[(sl4 b h).view.set]{fullShare} f) :=
    fun h _ => some_owns c (sl4 b h)
  refine (Entails.of_eq (bigSep_univ_eq_bigSepL [0, 1, 2, 3] (by decide) (by decide)
    (fun h : Fin 4 => (iprop(∃ Y, owns (c : Thread nD τ) (sl4 b h) fullShare Y) : SP F))).symm).trans ((bigSep_mono key).trans ?_)
  exact Ring.pointsTo_blocks_join_exists (ℓ := b.view.loc (c : Thread nD τ)) (fun h : Fin 4 => ((sl4 b h).view.set : Finset (Idx (b.view.loc (c : Thread nD τ))))) hd hc
    f₀

theorem sl3_cover (b : Memref sig .tc .vmem S3x2x128x512 .bf16) :
    (Finset.univ : Finset (Fin 3)).biUnion (fun h => (r3 h).set.map b.view.emb) = b.view.set := by
  rw [View.set, ← r3_cover]; ext i
  simp only [Finset.mem_biUnion, Finset.mem_univ, _root_.true_and, Finset.mem_map]
  exact ⟨fun ⟨h, x, hx, e⟩ => ⟨x, ⟨h, hx⟩, e⟩, fun ⟨x, ⟨h, hx⟩, e⟩ => ⟨h, x, hx, e⟩⟩

theorem slots3 (b : Memref sig .tc .vmem S3x2x128x512 .bf16) (hb : (b.view.set : Finset (Idx (b.view.loc (c : Thread nD τ)))) = Finset.univ) :
    (iprop(∃ f, b.view.loc (c : Thread nD τ) ↦{fullShare} f) : SP F)
      ⊢ iprop((∃ Y, owns (c : Thread nD τ) (sl3 b 0) fullShare Y) ∗ (∃ Y, owns (c : Thread nD τ) (sl3 b 1) fullShare Y)
        ∗ (∃ Y, owns (c : Thread nD τ) (sl3 b 2) fullShare Y)) := by
  have hd : ∀ h h' : Fin 3, h ≠ h' → Disjoint ((sl3 b h).view.set : Finset (Idx (b.view.loc (c : Thread nD τ)))) ((sl3 b h').view.set : Finset (Idx (b.view.loc (c : Thread nD τ)))) := fun h h' hn => by
    rw [set_sl3, set_sl3]; exact (Finset.disjoint_map _).mpr (r3_disj h h' hn)
  have hc : (Finset.univ : Finset (Fin 3)).biUnion (β := Idx (b.view.loc (c : Thread nD τ))) (fun h => ((sl3 b h).view.set : Finset (Idx (b.view.loc (c : Thread nD τ))))) = Finset.univ := by
    exact (Finset.biUnion_congr rfl fun h _ => set_sl3 b h).trans ((sl3_cover b).trans hb)
  refine (cut (ℓ := b.view.loc (c : Thread nD τ)) (fun h : Fin 3 => ((sl3 b h).view.set : Finset (Idx (b.view.loc (c : Thread nD τ))))) hd hc).trans ?_
  have key : ∀ h ∈ (Finset.univ : Finset (Fin 3)), (iprop(∃ f, b.view.loc (c : Thread nD τ) ↦[(sl3 b h).view.set]{fullShare} f) : SP F)
      ⊢ iprop(∃ Y, owns (c : Thread nD τ) (sl3 b h) fullShare Y) := by
    intro h _
    iintro ⟨%f, H⟩
    iapply (owns_some c (sl3 b h) f) $$ H
  refine (bigSep_mono key).trans ?_
  rw [bigSep_univ_eq_bigSepL [0, 1, 2] (by decide) (by decide)]
  exact BI.Entails.refl _

theorem unslots3 (b : Memref sig .tc .vmem S3x2x128x512 .bf16) (hb : (b.view.set : Finset (Idx (b.view.loc (c : Thread nD τ)))) = Finset.univ) (f₀ : Buf (Elt F) (b.view.loc (c : Thread nD τ))) :
    iprop((∃ Y, owns (c : Thread nD τ) (sl3 b 0) fullShare Y) ∗ (∃ Y, owns (c : Thread nD τ) (sl3 b 1) fullShare Y)
        ∗ (∃ Y, owns (c : Thread nD τ) (sl3 b 2) fullShare Y))
      ⊢ (iprop(∃ f, b.view.loc (c : Thread nD τ) ↦{fullShare} f) : SP F) := by
  have hd : ∀ h h' : Fin 3, h ≠ h' → Disjoint ((sl3 b h).view.set : Finset (Idx (b.view.loc (c : Thread nD τ)))) ((sl3 b h').view.set : Finset (Idx (b.view.loc (c : Thread nD τ)))) := fun h h' hn => by
    rw [set_sl3, set_sl3]; exact (Finset.disjoint_map _).mpr (r3_disj h h' hn)
  have hc : (Finset.univ : Finset (Fin 3)).biUnion (β := Idx (b.view.loc (c : Thread nD τ))) (fun h => ((sl3 b h).view.set : Finset (Idx (b.view.loc (c : Thread nD τ))))) = Finset.univ := by
    exact (Finset.biUnion_congr rfl fun h _ => set_sl3 b h).trans ((sl3_cover b).trans hb)
  have key : ∀ h ∈ (Finset.univ : Finset (Fin 3)), (iprop(∃ Y, owns (c : Thread nD τ) (sl3 b h) fullShare Y) : SP F)
      ⊢ iprop(∃ f : Buf (Elt F) (b.view.loc (c : Thread nD τ)), b.view.loc (c : Thread nD τ) ↦[(sl3 b h).view.set]{fullShare} f) :=
    fun h _ => some_owns c (sl3 b h)
  refine (Entails.of_eq (bigSep_univ_eq_bigSepL [0, 1, 2] (by decide) (by decide)
    (fun h : Fin 3 => (iprop(∃ Y, owns (c : Thread nD τ) (sl3 b h) fullShare Y) : SP F))).symm).trans ((bigSep_mono key).trans ?_)
  exact Ring.pointsTo_blocks_join_exists (ℓ := b.view.loc (c : Thread nD τ)) (fun h : Fin 3 => ((sl3 b h).view.set : Finset (Idx (b.view.loc (c : Thread nD τ))))) hd hc
    f₀

end Cert.KernelIdeal.Gen.Mine
-- ==== Proof.Eqn.lean ====
module

public import proofs.«01_k».proof.Proof.Body

/-! # The printed body is the structured one -/

@[expose] public section

set_option maxRecDepth 65536

noncomputable section

namespace Cert.KernelIdeal.Gen.Mine

open Cert.KernelIdeal Cert.KernelIdeal.Gen
open Idealize.ShloMosaic Idealize.ShloMosaic.TcCoe Idealize.SL.Sem

variable {F : FTy → Type} [FloatOps F]

/-- The body on the scratch buffers it is called with. -/
abbrev bodyAt (a0 : Memref sig .tc .vmem S2x128x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S2x128x512 .f32) (h5 : a5.IsWhole) :
    Prog (TpuEff nD τ sig (Elt F) Λ₀ Proc.tc) PUnit :=
  cc0_body a0 h0 a1 h1 a2 h2 a3 h3 a4 h4 a5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19

/-- The printed body reads the device's number and goes on as `myTail` says: device by device, both sides evaluate to
the same operations. -/
theorem body_eq (a0 : Memref sig .tc .vmem S2x128x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S2x128x512 .f32) (h5 : a5.IsWhole) :
    bodyAt (F := F) a0 h0 a1 h1 a2 h2 a3 h3 a4 h4 a5 h5 = Prog.op .deviceId (fun c => myTail c a0 a1 a2 a3 a4 a5) := by
  have h : ∃ k, bodyAt (F := F) a0 h0 a1 h1 a2 h2 a3 h3 a4 h4 a5 h5 = Prog.op .deviceId k ∧ ∀ c, k c = myTail c a0 a1 a2 a3 a4 a5 := by
    refine ⟨_, rfl, fun c => ?_⟩
    match c with
    | 0 => sl_kernel_rfl
    | 1 => sl_kernel_rfl
    | 2 => sl_kernel_rfl
    | 3 => sl_kernel_rfl
    | 4 => sl_kernel_rfl
    | 5 => sl_kernel_rfl
    | 6 => sl_kernel_rfl
    | 7 => sl_kernel_rfl
  obtain ⟨k, hk, he⟩ := h
  rw [hk, funext he]

end Cert.KernelIdeal.Gen.Mine
-- ==== Proof.Start.lean ====
module

public import proofs.«01_k».proof.Proof.Slots
public import proofs.«01_k».proof.Proof.Eqn
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

/-! # The launch

What a device's body starts from and what it gives back, the proof's data for the launch, and the run of the whole mesh. -/

@[expose] public section

noncomputable section

namespace Cert.KernelIdeal.Gen.Mine

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds Idealize.ShloMosaic.ValueIdx

variable {F : FTy → Type} [FloatOps F]

local notation "𝕄" => MT nD τ sig Unit (Elt F) ℕ UU ℕ
local notation "TP" => Prog (TpuEff nD τ sig (Elt F) Λ₀ Proc.tc)

/-! ## Scratch, as the body takes it -/

section Scratch
variable (c : Dev nD)

theorem fours (A B C D' E G : SP F) (h : iprop(A ∗ B) ⊢ C) (h' : iprop(D' ∗ E) ⊢ G) : iprop((A ∗ D') ∗ (B ∗ E)) ⊢ iprop(C ∗ G) := by
  iintro ⟨⟨HA, HD⟩, HB, HE⟩
  isplitl [HA HB]
  · iapply h; isplitl [HA] <;> iassumption
  · iapply h'; isplitl [HD] <;> iassumption

theorem slots_elim : (slots c : SP F) ⊢ iprop((∃ Y, owns (c : Thread nD τ) (dstM 0) fullShare Y) ∗ (∃ Y, owns (c : Thread nD τ) (dstM 1) fullShare Y) ∗ (∃ Y, owns (c : Thread nD τ) (dstM 2) fullShare Y) ∗ (∃ Y, owns (c : Thread nD τ) (dstM 3) fullShare Y) ∗ (∃ Y, owns (c : Thread nD τ) (dstM 4) fullShare Y) ∗ (∃ Y, owns (c : Thread nD τ) (dstM 5) fullShare Y) ∗ (∃ Y, owns (c : Thread nD τ) (dstM 6) fullShare Y) ∗ (∃ Y, owns (c : Thread nD τ) (dstM 7) fullShare Y) ∗ (∃ Y, owns (c : Thread nD τ) (dstM 8) fullShare Y) ∗ (∃ Y, owns (c : Thread nD τ) (dstM 9) fullShare Y) ∗ (∃ Y, owns (c : Thread nD τ) (dstM 10) fullShare Y) ∗ (∃ Y, owns (c : Thread nD τ) (dstM 11) fullShare Y) ∗ (∃ Y, owns (c : Thread nD τ) (dstM 12) fullShare Y) ∗ (∃ Y, owns (c : Thread nD τ) (dstM 13) fullShare Y)) := by
  unfold slots
  rw [bigSep_univ_eq_bigSepL [0, 1, 2, 3, 4, 5, 6, 7, 8, 9, 10, 11, 12, 13] (by decide) (by decide)]
  exact BI.Entails.refl _

/-- The scratch a device is given: the buffers it receives into, and the others. -/
theorem scratch_in : (Pipeline.scopedRest (Ix := Unit) (Name := ℕ) (U := UU) (Lvl := ℕ) (Val := Elt F) cfg0.spec c : SP F)
    ⊢ iprop(slots c ∗ (∃ X, owns (c : Thread nD τ) x16 fullShare X) ∗ (∃ X, owns (c : Thread nD τ) qbuf fullShare X) ∗ (∃ X, owns (c : Thread nD τ) kbuf fullShare X) ∗ (∃ X, owns (c : Thread nD τ) vbuf fullShare X) ∗ (∃ X, owns (c : Thread nD τ) pcA fullShare X) ∗ (∃ X, owns (c : Thread nD τ) pcB fullShare X) ∗ (∃ X, owns (c : Thread nD τ) wqkv fullShare X) ∗ (∃ X, owns (c : Thread nD τ) wo16 fullShare X)) := by
  rw [show (Pipeline.scopedRest (Ix := Unit) (Name := ℕ) (U := UU) (Lvl := ℕ) (Val := Elt F) cfg0.spec c : SP F) = _ from scopedRest0_eq c]
  rw [whole_eq c cc0_scratch0, whole_eq c cc0_scratch3, whole_eq c cc0_scratch4, whole_eq c cc0_scratch5, whole_eq c cc0_scratch6, whole_eq c cc0_scratch7, whole_eq c cc0_scratch10, whole_eq c cc0_scratch11]
  iintro ⟨H0, H1, H2, H3, H4, H5, H6, H7, H8, H9, H10, H11⟩
  ihave R := (slots4 c rbuf (View.set_whole _)) $$ [H1]
  · iexact H1
  ihave L' := (slots3 c lbuf (View.set_whole _)) $$ [H2]
  · iexact H2
  ihave U := (slots3 c rsR (View.set_whole _)) $$ [H8]
  · iexact H8
  ihave V := (slots4 c rsL (View.set_whole _)) $$ [H9]
  · iexact H9
  icases R with ⟨R0, R1, R2, R3⟩
  icases L' with ⟨L0, L1, L2⟩
  icases U with ⟨U0, U1, U2⟩
  icases V with ⟨V0, V1, V2, V3⟩
  isplitl [R0 R1 R2 R3 L0 L1 L2 U0 U1 U2 V0 V1 V2 V3]
  · iapply (slots_intro c)
    isplitl [R0]; · iexact R0
    isplitl [L0]; · iexact L0
    isplitl [R1]; · iexact R1
    isplitl [L1]; · iexact L1
    isplitl [R2]; · iexact R2
    isplitl [L2]; · iexact L2
    isplitl [R3]; · iexact R3
    isplitl [U0]; · iexact U0
    isplitl [V0]; · iexact V0
    isplitl [U1]; · iexact U1
    isplitl [V1]; · iexact V1
    isplitl [U2]; · iexact U2
    isplitl [V2]; · iexact V2
    iexact V3
  isplitl [H0]; · iexact H0
  isplitl [H3]; · iexact H3
  isplitl [H4]; · iexact H4
  isplitl [H5]; · iexact H5
  isplitl [H6]; · iexact H6
  isplitl [H7]; · iexact H7
  isplitl [H10]; · iexact H10
  iexact H11

/-- And given back. -/
theorem scratch_out : (iprop(slots c ∗ (∃ X, owns (c : Thread nD τ) x16 fullShare X) ∗ (∃ X, owns (c : Thread nD τ) qbuf fullShare X) ∗ (∃ X, owns (c : Thread nD τ) kbuf fullShare X) ∗ (∃ X, owns (c : Thread nD τ) vbuf fullShare X) ∗ (∃ X, owns (c : Thread nD τ) pcA fullShare X) ∗ (∃ X, owns (c : Thread nD τ) pcB fullShare X) ∗ (∃ X, owns (c : Thread nD τ) wqkv fullShare X) ∗ (∃ X, owns (c : Thread nD τ) wo16 fullShare X)) : SP F)
    ⊢ Pipeline.scopedRest (Ix := Unit) (Name := ℕ) (U := UU) (Lvl := ℕ) (Val := Elt F) cfg0.spec c := by
  rw [show (Pipeline.scopedRest (Ix := Unit) (Name := ℕ) (U := UU) (Lvl := ℕ) (Val := Elt F) cfg0.spec c : SP F) = _ from scopedRest0_eq c]
  rw [whole_eq c cc0_scratch0, whole_eq c cc0_scratch3, whole_eq c cc0_scratch4, whole_eq c cc0_scratch5, whole_eq c cc0_scratch6, whole_eq c cc0_scratch7, whole_eq c cc0_scratch10, whole_eq c cc0_scratch11]
  iintro ⟨HS, H0, H3, H4, H5, H6, H7, H10, H11⟩
  ihave HS := (slots_elim c) $$ HS
  icases HS with ⟨R0, L0, R1, L1, R2, L2, R3, U0, V0, U1, V1, U2, V2, V3⟩
  ihave R := (unslots4 c rbuf (View.set_whole _) (fun _ => Scalar.ofBits .bf16 0x0000#16)) $$ [R0 R1 R2 R3]
  · isplitl [R0]; · iexact R0
    isplitl [R1]; · iexact R1
    isplitl [R2]; · iexact R2
    iexact R3
  ihave L' := (unslots3 c lbuf (View.set_whole _) (fun _ => Scalar.ofBits .bf16 0x0000#16)) $$ [L0 L1 L2]
  · isplitl [L0]; · iexact L0
    isplitl [L1]; · iexact L1
    iexact L2
  ihave U := (unslots3 c rsR (View.set_whole _) (fun _ => Scalar.ofBits .bf16 0x0000#16)) $$ [U0 U1 U2]
  · isplitl [U0]; · iexact U0
    isplitl [U1]; · iexact U1
    iexact U2
  ihave V := (unslots4 c rsL (View.set_whole _) (fun _ => Scalar.ofBits .bf16 0x0000#16)) $$ [V0 V1 V2 V3]
  · isplitl [V0]; · iexact V0
    isplitl [V1]; · iexact V1
    isplitl [V2]; · iexact V2
    iexact V3
  isplitl [H0]; · iexact H0
  isplitl [R]; · iexact R
  isplitl [L']; · iexact L'
  isplitl [H3]; · iexact H3
  isplitl [H4]; · iexact H4
  isplitl [H5]; · iexact H5
  isplitl [H6]; · iexact H6
  isplitl [H7]; · iexact H7
  isplitl [U]; · iexact U
  isplitl [V]; · iexact V
  isplitl [H10]; · iexact H10
  iexact H11

end Scratch

/-! ## The proof's data -/

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-- The devices' inputs, as the launch stages them. -/
def inp : Inp F where
  x c := (win0_0.blk (0 : Fin 1)).view.read (Elt F) ((s₀ m ρ).mem ((c : Thread nD τ).loc main_arg0))
  wq c := (win0_1.blk (0 : Fin 1)).view.read (Elt F) ((s₀ m ρ).mem ((c : Thread nD τ).loc main_arg1))
  wo c := (win0_2.blk (0 : Fin 1)).view.read (Elt F) ((s₀ m ρ).mem ((c : Thread nD τ).loc main_arg4))
  wk c := (win0_3.blk (0 : Fin 1)).view.read (Elt F) ((s₀ m ρ).mem ((c : Thread nD τ).loc main_arg2))
  wv c := (win0_4.blk (0 : Fin 1)).view.read (Elt F) ((s₀ m ρ).mem ((c : Thread nD τ).loc main_arg3))

/-- A transfer's own two semaphores. -/
abbrev osem : Fin 14 ⊕ Fin 14 → SemLoc sig
  | .inl j => .dma (sendSem j)
  | .inr j => .dma (recvSem j)

/-- What a device's body starts from, its scratch and its debts apart. -/
def start (c : Dev nD) : SP F :=
  iprop((∃ K, records (inp m ρ) K) ∗ levAts L lv ∗ (dutyTok ER (barCell (prv c)) 0 true ∗ dutyTok ER (barCell (nxt c)) 0 false
      ∗ cred (tallyAt (barCell c) () 2) ∗ atPos ER (barCell c) 0 ∅ 0)
    ∗ (bigSep Finset.univ (preSend c)) ∗ (bigSep Finset.univ (recvSt c ∅)))

def Φ₀ (c : Dev nD) : SP F := iprop(start m ρ c ∗ Pipeline.scopedRest (Ix := Unit) (Name := ℕ) (U := UU) (Lvl := ℕ) (Val := Elt F) cfg0.spec c)
/-- After the body: every counter at zero, and the scratch. -/
def Φ₁ (c : Dev nD) : SP F :=
  iprop(semVal (barCell c) 0 ∗ ((bigSep Finset.univ fun j : Fin 14 => semVal (sendCell c j) 0) ∗ bigSep Finset.univ fun j : Fin 14 => semVal (recvCell c j) 0)
    ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m ρ).x c
    | ⟨1, _⟩ => (inp m ρ).wq c
    | ⟨2, _⟩ => (inp m ρ).wo c
    | ⟨3, _⟩ => (inp m ρ).wk c
    | ⟨4, _⟩ => (inp m ρ).wv c
    | ⟨5, _⟩ => (inp m ρ).out c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

/-- Every departure, -/
theorem all_sent (c : Dev nD) : (bigSep Finset.univ (sendSt (F := F) c 14 Finset.univ) : SP F) ⊢ bigSep Finset.univ fun j : Fin 14 => semVal (sendCell c j) 0 :=
  Entails.of_eq (bigSep_congr fun j _ => by unfold sendSt; rw [if_pos (Finset.mem_univ _)])
/-- and every arrival, waited for. -/
theorem all_recv (c : Dev nD) : (bigSep Finset.univ (recvSt (F := F) c Finset.univ) : SP F) ⊢ bigSep Finset.univ fun j : Fin 14 => semVal (recvCell c j) 0 :=
  Entails.of_eq (bigSep_congr fun j _ => by unfold recvSt; rw [if_pos (Finset.mem_univ _)])

/-- The body from what the launch hands it to what it hands back. -/
theorem sound_body (c : Dev nD) (a0 : Memref sig .tc .vmem S2x128x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S2x128x512 .f32) (h5 : a5.IsWhole) (W : Waits sig Unit)
    (Kt : PUnit → SP F) :
    iprop((Φ₀ m ρ c ∗ owes (c : Thread nD τ) (O₀ c) W ∗ args (inp m ρ) c a0 a1 a2 a3 a4 ∗ (∃ X, owns (c : Thread nD τ) a5 fullShare X))
        ∗ (iprop(Φ₁ c ∗ (∃ W, owes (c : Thread nD τ) (0 : CellTallies nD τ sig Unit) W) ∗ args (inp m ρ) c a0 a1 a2 a3 a4
            ∗ owns (c : Thread nD τ) a5 fullShare ((inp m ρ).out c)) -∗ Kt ⟨⟩))
      ⊢ WP c (bodyAt (F := F) a0 h0 a1 h1 a2 h2 a3 h3 a4 h4 a5 h5) Kt := by
  rw [body_eq]
  unfold WP
  rw [wp_deviceId]
  rw [show (myTail c a0 a1 a2 a3 a4 a5 : TP PUnit) = myTail c a0 a1 a2 a3 a4 a5 >>= pure from (bind_pure _).symm]
  unfold Φ₀ start
  iintro ⟨⟨⟨⟨HK, Hlev, Hbar, Hsend, Hrecv⟩, Hscr⟩, Ho, Hargs, Hout⟩, Hend⟩
  ihave Hscr := (scratch_in (F := F) c) $$ Hscr
  icases Hscr with ⟨Hsl, Hx, Hq, Hk, Hv, HA, HB, Hw, Hwo⟩
  iapply (wp_myTail (inp m ρ) c (k := pure)) $$ [HK Hlev Hbar Hsend Hrecv Ho Hsl Hargs Hout Hx Hq Hk Hv HA HB Hw Hwo]
  · isplitl [HK Hlev Hbar Hsend Hrecv Ho]
    · unfold PreComm
      isplitl [HK]; · iexact HK
      isplitl [Hlev]; · iexact Hlev
      isplitl [Hbar]; · iexact Hbar
      isplitl [Hsend]; · iexact Hsend
      isplitl [Hrecv]; · iexact Hrecv
      iexists W; iexact Ho
    isplitl [Hsl]; · iexact Hsl
    isplitl [Hargs]; · iexact Hargs
    isplitl [Hout]; · iexact Hout
    isplitl [Hx]; · iexact Hx
    isplitl [Hq]; · iexact Hq
    isplitl [Hk]; · iexact Hk
    isplitl [Hv]; · iexact Hv
    isplitl [HA]; · iexact HA
    isplitl [HB]; · iexact HB
    isplitl [Hw]; · iexact Hw
    iexact Hwo
  iintro HC Hbz Hargs Hout Hsl Hx Hq Hk Hv HA HB Hw Hwo
  iapply (wp_pure c)
  iapply Hend
  unfold Φ₁ Comm
  icases HC with ⟨-, -, HS, HR, ⟨%W', Ho⟩⟩
  isplitr [Ho Hargs Hout]
  · isplitl [Hbz]; · iexact Hbz
    isplitl [HS HR]
    · isplitl [HS]
      · iapply (all_sent c) $$ HS
      · iapply (all_recv c) $$ HR
    iapply (scratch_out (F := F) c)
    isplitl [Hsl]; · iexact Hsl
    isplitl [Hx]; · iexact Hx
    isplitl [Hq]; · iexact Hq
    isplitl [Hk]; · iexact Hk
    isplitl [Hv]; · iexact Hv
    isplitl [HA]; · iexact HA
    isplitl [HB]; · iexact HB
    isplitl [Hw]; · iexact Hw
    iexact Hwo
  isplitl [Ho]
  · iexists W'; rw [D_end]; iexact Ho
  isplitl [Hargs]; · iexact Hargs
  iexact Hout

theorem fin_N (t : Fin cfg0.N) : t = t0_0 := fin_N0 t
theorem bigSep_W (Φ : Fin cfg0.W → SP F) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- The library's body obligation on device `c`'s core. -/
theorem body_obligation (c : Dev nD) : BodyObligation (dats (F := F) m ρ 0 c) (defs₀ (F := F)) 𝒱₀ () Set.univ := fun t => by
  rw [fin_N t]
  rw [bigSep_W, bigSep_W]
  have hb : (defs₀ (F := F)) .tc cfg0.body (cfg0.bodyArgs t0_0 (cfg0.slots t0_0)) = bodyAt (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _) := rfl
  rw [hb]
  have e0 : (dats (F := F) m ρ 0 c).Φ t0_0.castSucc = Φ₀ m ρ c := rfl
  have e1 : (dats (F := F) m ρ 0 c).Φ t0_0.succ = Φ₁ c := rfl
  rw [e0, e1]
  have hidle : ∀ (w : Fin cfg0.W) (i : grid0.Coords), cfg0.idle w i = false := fun _ _ => rfl
  have f0 : ∀ X, (owns (Ix := Unit) (Name := ℕ) (U := UU) (Lvl := ℕ) (Val := Elt F) (c : Thread nD τ) ((cfg0.win (0 : Fin 6)).stage (cfg0.slots t0_0 (0 : Fin 6))) fullShare X : SP F) = owns (c : Thread nD τ) (Memref.whole cc0_stg0_0) fullShare X := fun X => rfl
  have f1 : ∀ X, (owns (Ix := Unit) (Name := ℕ) (U := UU) (Lvl := ℕ) (Val := Elt F) (c : Thread nD τ) ((cfg0.win (1 : Fin 6)).stage (cfg0.slots t0_0 (1 : Fin 6))) fullShare X : SP F) = owns (c : Thread nD τ) (Memref.whole cc0_stg1_0) fullShare X := fun X => rfl
  have f2 : ∀ X, (owns (Ix := Unit) (Name := ℕ) (U := UU) (Lvl := ℕ) (Val := Elt F) (c : Thread nD τ) ((cfg0.win (2 : Fin 6)).stage (cfg0.slots t0_0 (2 : Fin 6))) fullShare X : SP F) = owns (c : Thread nD τ) (Memref.whole cc0_stg2_0) fullShare X := fun X => rfl
  have f3 : ∀ X, (owns (Ix := Unit) (Name := ℕ) (U := UU) (Lvl := ℕ) (Val := Elt F) (c : Thread nD τ) ((cfg0.win (3 : Fin 6)).stage (cfg0.slots t0_0 (3 : Fin 6))) fullShare X : SP F) = owns (c : Thread nD τ) (Memref.whole cc0_stg3_0) fullShare X := fun X => rfl
  have f4 : ∀ X, (owns (Ix := Unit) (Name := ℕ) (U := UU) (Lvl := ℕ) (Val := Elt F) (c : Thread nD τ) ((cfg0.win (4 : Fin 6)).stage (cfg0.slots t0_0 (4 : Fin 6))) fullShare X : SP F) = owns (c : Thread nD τ) (Memref.whole cc0_stg4_0) fullShare X := fun X => rfl
  have f5 : ∀ X, (owns (Ix := Unit) (Name := ℕ) (U := UU) (Lvl := ℕ) (Val := Elt F) (c : Thread nD τ) ((cfg0.win (5 : Fin 6)).stage (cfg0.slots t0_0 (5 : Fin 6))) fullShare X : SP F) = owns (c : Thread nD τ) (Memref.whole cc0_stg5_0) fullShare X := fun X => rfl
  have b0 : ∀ d, (dats m ρ 0 c).before (0 : Fin 6) t0_0 d = (inp m ρ).x c := fun d => by unfold Dat.before; rw [if_pos (show (cfg0.win (0 : Fin 6)).fetch t0_0 = true from rfl)]; rfl
  have b1 : ∀ d, (dats m ρ 0 c).before (1 : Fin 6) t0_0 d = (inp m ρ).wq c := fun d => by unfold Dat.before; rw [if_pos (show (cfg0.win (1 : Fin 6)).fetch t0_0 = true from rfl)]; rfl
  have b2 : ∀ d, (dats m ρ 0 c).before (2 : Fin 6) t0_0 d = (inp m ρ).wo c := fun d => by unfold Dat.before; rw [if_pos (show (cfg0.win (2 : Fin 6)).fetch t0_0 = true from rfl)]; rfl
  have b3 : ∀ d, (dats m ρ 0 c).before (3 : Fin 6) t0_0 d = (inp m ρ).wk c := fun d => by unfold Dat.before; rw [if_pos (show (cfg0.win (3 : Fin 6)).fetch t0_0 = true from rfl)]; rfl
  have b4 : ∀ d, (dats m ρ 0 c).before (4 : Fin 6) t0_0 d = (inp m ρ).wv c := fun d => by unfold Dat.before; rw [if_pos (show (cfg0.win (4 : Fin 6)).fetch t0_0 = true from rfl)]; rfl
  simp only [hidle, f0, f1, f2, f3, f4, f5]
  unfold Dat.owesAt Pipeline.owesWithin
  simp only [b0, b1, b2, b3, b4]
  iintro ⟨HΦ, ⟨%W, %hW, Ho⟩, ⟨%d0, H0⟩, ⟨%d1, H1⟩, ⟨%d2, H2⟩, ⟨%d3, H3⟩, ⟨%d4, H4⟩, ⟨%d5, H5⟩⟩
  iapply (sound_body m ρ c _ _ _ _ _ _ _ _ _ _ _ _ W _)
  isplitl [HΦ Ho H0 H1 H2 H3 H4 H5]
  · isplitl [HΦ]; · iexact HΦ
    isplitl [Ho]; · iexact Ho
    isplitr [H5]
    · unfold args
      isplitl [H0]; · iexact H0
      isplitl [H1]; · iexact H1
      isplitl [H2]; · iexact H2
      isplitl [H3]; · iexact H3
      iexact H4
    iexists _; iexact H5
  unfold args
  iintro ⟨HΦ, ⟨%W', Ho⟩, ⟨H0, H1, H2, H3, H4⟩, H5⟩
  isplitl [HΦ]; · iexact HΦ
  isplitl [Ho]
  · iexists W'
    isplitr
    · ipureintro; exact fun _ _ => Or.inl trivial
    iexact Ho
  isplitl [H0]; · iexact H0
  isplitl [H1]; · iexact H1
  isplitl [H2]; · iexact H2
  isplitl [H3]; · iexact H3
  isplitl [H4]; · iexact H4
  iexact H5

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  rcases k with ⟨⟩ | j | j <;> rcases k' with ⟨⟩ | j' | j' <;> simp only [csem, SemLoc.dma.injEq, reduceCtorEq] at h
  · rfl
  · have := congrArg kindOf h; rw [kindOf_send, kindOf_send] at this; cases this; rfl
  · have := congrArg kindOf h; rw [kindOf_send, kindOf_recv] at this; cases this
  · have := congrArg kindOf h; rw [kindOf_send, kindOf_recv] at this; cases this
  · have := congrArg kindOf h; rw [kindOf_recv, kindOf_recv] at this; cases this; rfl
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's own cells' duty tokens: its barrier's two, its departures' and its arrivals'. -/
abbrev TIx : Type := Bool ⊕ (Fin 14 ⊕ Fin 14)
def tokOf (ck : Dev nD × TIx) : GSem nD τ sig × ℕ × Bool := match ck.2 with
  | .inl b => (barCell ck.1, 0, b)
  | .inr (.inl j) => (sendCell ck.1 j, 0, false)
  | .inr (.inr j) => (recvCell ck.1 j, 0, false)
theorem tokOf_injective : Function.Injective tokOf := by
  rintro ⟨c, k⟩ ⟨c', k'⟩ h
  have h1 : c = c' := by
    have := congrArg (fun x : GSem nD τ sig × ℕ × Bool => x.1.1.1) h
    rcases k with b | j | j <;> rcases k' with b' | j' | j' <;> exact this
  have hs := congrArg (fun x : GSem nD τ sig × ℕ × Bool => x.1.2) h
  have hb := congrArg (fun x : GSem nD τ sig × ℕ × Bool => x.2.2) h
  subst h1
  rcases k with b | j | j <;> rcases k' with b' | j' | j' <;> simp only [tokOf, SemLoc.dma.injEq, reduceCtorEq] at hs hb
  · rw [hb]
  · have := congrArg kindOf hs; rw [kindOf_send, kindOf_send] at this; cases this; rfl
  · have := congrArg kindOf hs; rw [kindOf_send, kindOf_recv] at this; cases this
  · have := congrArg kindOf hs; rw [kindOf_send, kindOf_recv] at this; cases this
  · have := congrArg kindOf hs; rw [kindOf_recv, kindOf_recv] at this; cases this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : SP F :=
  iprop((dutyTok ER (barCell c) 0 false ∗ dutyTok ER (barCell c) 0 true)
    ∗ (bigSep Finset.univ fun j : Fin 14 => dutyTok ER (sendCell c j) 0 false) ∗ bigSep Finset.univ fun j : Fin 14 => dutyTok ER (recvCell c j) 0 false)

/-- What the launch deals device `c`, -/
def G (c : Dev nD) : SP F :=
  iprop((bigSep Finset.univ fun k : CIx => roundState ER (ringRd (inp m ρ)) (kcell (c, k)) 0)
    ∗ (bigSep Finset.univ fun k : CIx => iprop(atPos ER (kcell (c, k)) 0 ∅ 0 ∗ reached ER (kcell (c, k)) 0)) ∗ toks c)

/-- what of it stays with the device once the tokens are dealt around the ring, -/
def linear (c : Dev nD) : SP F :=
  iprop((dutyTok ER (barCell (prv c)) 0 true ∗ dutyTok ER (barCell (nxt c)) 0 false ∗ atPos ER (barCell c) 0 ∅ 0)
    ∗ (bigSep Finset.univ (preSend c)) ∗ bigSep Finset.univ fun j : Fin 14 => atPos ER (recvCell c j) 0 ∅ 0)
/-- and what the global step makes of it. -/
def G' (c : Dev nD) : SP F := iprop((∃ K, records (inp m ρ) K) ∗ linear c)

theorem bigSep_bool (Φ : Bool → SP F) : bigSep Finset.univ Φ = iprop(Φ false ∗ Φ true) := bigSep_univ_eq_bigSepL [false, true] (by decide) (by decide) Φ
theorem bigSep_unit (Φ : Unit → SP F) : bigSep Finset.univ Φ = Φ () := bigSep_univ_eq_bigSepL [()] (by decide) (by decide) Φ
theorem bigSep_CIx (Φ : CIx → SP F) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, bigSep_unit]; rfl

theorem fund_ring : BI.own (ER (initOf ringCells ringToks)) ⊢ (|==> bigSep Finset.univ (G m ρ) : SP F) := by
  have hX (Φ : GSem nD τ sig → SP F) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : SP F)) = bigSep Finset.univ fun c : Dev nD => toks c := by
    unfold ringToks; rw [bigSep_map, bigSep_univ_prod]
    exact bigSep_congr fun c _ => by unfold toks; rw [bigSep_univ_sum, bigSep_univ_sum, bigSep_bool]; rfl
  iintro HX
  imod (Rounds.fund ER (ringRd (inp m ρ)) ringCells ringToks) $$ HX with ⟨Hst, Hr, Hat, Htok⟩
  imodintro
  ihave Hst' := (Entails.of_eq (hX fun g => roundState ER (ringRd (inp m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem ownSems0_eq (c : Dev nD) : (Pipeline.ownSems0 (Ix := Unit) (Name := ℕ) (U := UU) (Lvl := ℕ) (Val := Elt F) (τ := τ) osem c : SP F)
    = iprop((bigSep Finset.univ fun j : Fin 14 => semVal (sendCell c j) 0) ∗ bigSep Finset.univ fun j : Fin 14 => semVal (recvCell c j) 0) := by
  unfold Pipeline.ownSems0
  rw [bigSep_univ_sum]; rfl
theorem unscopedSems0_eq (c : Dev nD) : (unscopedSems0 c : SP F) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : SP F) := by
  rw [ownSems0_eq, unscopedSems0_eq, bigSep_CIx]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> (iprop((bigSep Finset.univ fun k => iprop(∃ κ : ℕ, cellInv ER (ringRd (inp m ρ)) κ (kcell (c, k))))
          ∗ (bigSep Finset.univ fun k => iprop(atPos ER (kcell (c, k)) 0 ∅ 0 ∗ reached ER (kcell (c, k)) 0)) ∗ toks c) : SP F) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : CIx => semVal (kcell (c, k)) 0) ∗ bigSep Finset.univ fun k : CIx => roundState ER (ringRd (inp m ρ)) (kcell (c, k)) 0)
      ⊢ (|={Set.univ}=> bigSep Finset.univ fun k => iprop(∃ κ : ℕ, cellInv ER (ringRd (inp m ρ)) κ (kcell (c, k))) : SP F) from by
        rw [← bigSep_sep']
        exact (bigSep_mono fun k _ => (Rounds.body_intro ER (ringRd (inp m ρ)) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Which device and transfer pays each arrival. -/
def around : Dev nD × Fin 14 ≃ Dev nD × Fin 14 where
  toFun p := (peer p.1 p.2, p.2)
  invFun p := (from_ p.1 p.2, p.2)
  left_inv p := Prod.ext (from_peer p.1 p.2) rfl
  right_inv p := Prod.ext (peer_from p.1 p.2) rfl

/-- The tokens each device pays with. -/
def payToks (c : Dev nD) : SP F :=
  iprop((dutyTok ER (barCell (nxt c)) 0 false ∗ dutyTok ER (barCell (prv c)) 0 true)
    ∗ (bigSep Finset.univ fun j : Fin 14 => dutyTok ER (sendCell c j) 0 false) ∗ bigSep Finset.univ fun j : Fin 14 => dutyTok ER (recvCell (peer c j) j) 0 false)

theorem toks_around : (bigSep Finset.univ fun c : Dev nD => (toks c : SP F)) ⊢ bigSep Finset.univ fun c : Dev nD => payToks c := by
  have hr : (bigSep Finset.univ fun c : Dev nD => bigSep Finset.univ fun j : Fin 14 => (dutyTok ER (recvCell c j) 0 false : SP F))
      = bigSep Finset.univ fun c : Dev nD => bigSep Finset.univ fun j : Fin 14 => dutyTok ER (recvCell (peer c j) j) 0 false := by
    rw [← bigSep_univ_prod (fun p : Dev nD × Fin 14 => (dutyTok ER (recvCell p.1 p.2) 0 false : SP F)),
      bigSep_univ_equiv around, bigSep_univ_prod]
    rfl
  unfold toks payToks
  rw [bigSep_sep', bigSep_sep', bigSep_sep', bigSep_sep', bigSep_sep', bigSep_sep', hr,
    bigSep_univ_equiv ring (fun c : Dev nD => (dutyTok ER (barCell c) 0 false : SP F)),
    bigSep_univ_equiv ring.symm (fun c : Dev nD => (dutyTok ER (barCell c) 0 true : SP F))]
  exact BI.Entails.refl _

theorem linear_intro (c : Dev nD) :
    iprop((bigSep Finset.univ fun k : CIx => (atPos ER (kcell (c, k)) 0 ∅ 0 : SP F)) ∗ payToks c) ⊢ linear c := by
  unfold payToks linear preSend
  rw [bigSep_CIx, bigSep_sep', bigSep_sep']
  iintro ⟨⟨HB, HS, HR⟩, ⟨HtF, HtT⟩, Hts, Htr⟩
  isplitl [HB HtF HtT]
  · isplitl [HtT]; · iexact HtT
    isplitl [HtF]; · iexact HtF
    iexact HB
  isplitl [HS Hts Htr]
  · isplitl [Hts]; · iexact Hts
    isplitl [Htr]; · iexact Htr
    iexact HS
  iexact HR

theorem bigSep_with_persistent {I : Type} [DecidableEq I] {S : Finset I} {R : SP F} [BI.Persistent R] {Φ Ψ : I → SP F}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd (inp m ρ)) κ (kcell (c, k))))
          ∗ (bigSep Finset.univ fun k => iprop(atPos ER (kcell (c, k)) 0 ∅ 0 ∗ reached ER (kcell (c, k)) 0)) ∗ toks c) : SP F)
      ⊢ bigSep Finset.univ (G' m ρ) := by
  rw [bigSep_sep', bigSep_sep', ← bigSep_univ_prod (fun ck : Dev nD × CIx => iprop(∃ κ : ℕ, cellInv ER (ringRd (inp m ρ)) κ (kcell ck))),
    bigSep_congr (s := Finset.univ) (fun (c : Dev nD) _ => bigSep_sep' Finset.univ (fun k : CIx => (atPos ER (kcell (c, k)) 0 ∅ 0 : SP F)) (fun k => reached ER (kcell (c, k)) 0)),
    bigSep_sep', ← bigSep_univ_prod (fun ck : Dev nD × CIx => (reached ER (kcell ck) 0 : SP F))]
  iintro ⟨HI, ⟨Hat, #HR⟩, Htok⟩
  ihave HK := (BI.bigSep_exists_pi Finset.univ (fun (ck : Dev nD × CIx) (κ : ℕ) => (cellInv ER (ringRd (inp m ρ)) κ (kcell ck) : SP F))) $$ HI
  icases HK with ⟨%K, #HI⟩
  ihave Htk := (toks_around (F := F)) $$ Htok
  have hG : ∀ c ∈ (Finset.univ : Finset (Dev nD)), iprop(records (inp m ρ) K ∗ linear c) ⊢ G' m ρ c := fun c _ => by
    unfold G'
    iintro ⟨H1, H2⟩
    isplitl [H1]
    · iexists K; iexact H1
    iexact H2
  have hl : iprop((bigSep Finset.univ fun c : Dev nD => bigSep Finset.univ fun k : CIx => (atPos ER (kcell (c, k)) 0 ∅ 0 : SP F)) ∗ bigSep Finset.univ payToks)
      ⊢ bigSep Finset.univ linear := by
    rw [← bigSep_sep']; exact bigSep_mono fun c _ => linear_intro c
  iapply (bigSep_with_persistent (R := records (inp m ρ) K) hG)
  isplitr
  · unfold records; isplitl; · iexact HI
    iexact HR
  · iapply hl
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : SP F)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => congrArg (fun g : GSem nD τ sig => g.1.1) h, fun h => h ▸ rfl⟩
theorem recv_eq {a b : Dev nD} {i j : Fin 14} (h : recvCell a i = recvCell b j) : a = b ∧ i = j := by
  refine ⟨congrArg (fun g : GSem nD τ sig => g.1.1) h, ?_⟩
  have := congrArg (fun g : GSem nD τ sig => match g.2 with | .dma q => kindOf q | .reg _ => none) h
  simp only [kindOf_recv] at this
  cases this; rfl
theorem recv_ne_bar (a b : Dev nD) (j : Fin 14) : recvCell a j ≠ barCell b := fun h => by
  have := congrArg Prod.snd h; cases this

theorem D_bar (d c : Dev nD) (n : ℕ) : D d n (barCell c) () = 0 := by
  by_contra h
  obtain ⟨j, -, hj⟩ := D_pos (Nat.pos_of_ne_zero h)
  exact recv_ne_bar _ _ j hj.symm

theorem D_recv (d c : Dev nD) (j : Fin 14) : D d 0 (recvCell c j) () = if d = from_ c j then N else 0 := by
  unfold D
  rw [Finset.sum_apply, Finsupp.finset_sum_apply, Finset.sum_eq_single j]
  · rw [tallyAt_apply]
    by_cases h : d = from_ c j
    · subst h; rw [peer_from, if_pos ⟨rfl, rfl⟩, if_pos rfl]
    · rw [if_neg (fun ⟨h1, _⟩ => h (by rw [← from_peer d j, (recv_eq h1).1])), if_neg h]
  · intro i _ hi
    rw [tallyAt_apply, if_neg fun ⟨h1, _⟩ => hi (recv_eq h1).2.symm]
  · intro h; exact absurd (Finset.mem_filter.mpr ⟨Finset.mem_univ j, Nat.zero_le j.val⟩) h

/-- What device `d` owes device `c`'s barrier cell, -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, D_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

/-- and an arrival's cell. -/
theorem owed_recv (d c : Dev nD) (j : Fin 14) : O₀ d (recvCell c j) () = if d = from_ c j then N else 0 := by
  unfold O₀ O₁
  rw [Pi.add_apply, Finsupp.add_apply, Pi.add_apply, Finsupp.add_apply, D_recv,
    tallyAt_ne_cell (recv_ne_bar _ _ _), tallyAt_ne_cell (recv_ne_bar _ _ _), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (j : Fin 14) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (from_ c j) fun _ => N,
    if_pos (Finset.mem_univ _)]

/-- The arrivals' semaphores, no barrier's. -/
def recvSems : Finset (SemLoc sig) := Finset.univ.map ⟨fun j : Fin 14 => SemLoc.dma (recvSem j), fun i j h => by
  have := congrArg (fun s : SemLoc sig => match s with | .dma q => kindOf q | .reg _ => none) h
  simp only [kindOf_recv] at this
  cases this; rfl⟩

theorem creds (c : Dev nD) :
    (Pipeline.launchCred O₀ c : SP F) ⊢ iprop(cred (tallyAt (barCell c) () 2) ∗ bigSep Finset.univ fun j : Fin 14 => cred (tallyAt (recvCell c j) () N)) := by
  unfold Pipeline.launchCred
  rw [bigSep_univ_at _ (SemLoc.reg barS), launch_bar]
  refine sep_mono_right ?_
  have h : recvSems ⊆ Finset.univ.erase (SemLoc.reg barS) := fun s hs => by
    obtain ⟨j, -, rfl⟩ := Finset.mem_map.mp hs
    exact Finset.mem_erase.mpr ⟨fun h => (by cases h), Finset.mem_univ _⟩
  refine (bigSep_subset h).trans ?_
  unfold recvSems
  rw [bigSep_map]
  exact Entails.of_eq (bigSep_congr fun j _ => by rw [← launch_recv]; rfl)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> (iprop(start m ρ c ∗ emp) : SP F) := by
  have hR : (iprop((bigSep Finset.univ fun j : Fin 14 => cred (tallyAt (recvCell c j) () N)) ∗ bigSep Finset.univ fun j : Fin 14 => atPos ER (recvCell c j) 0 ∅ 0) : SP F)
      ⊢ bigSep Finset.univ (recvSt c ∅) := by
    rw [← bigSep_sep']
    exact Entails.of_eq (bigSep_congr fun j _ => by unfold recvSt; rw [if_neg (Finset.notMem_empty _)])
  iintro ⟨-, Hlev, Hcr, -, HG⟩
  ihave Hc := (creds (F := F) c) $$ Hcr
  icases Hc with ⟨H1, HN⟩
  unfold start G' linear
  icases HG with ⟨HK, ⟨HtT, HtF, HB⟩, HS, HP⟩
  imodintro
  isplitl
  · isplitl [HK]; · iexact HK
    isplitl [Hlev]; · iexact Hlev
    isplitl [HtT HtF HB H1]
    · isplitl [HtT]; · iexact HtT
      isplitl [HtF]; · iexact HtF
      isplitl [H1]; · iexact H1
      iexact HB
    isplitl [HS]; · iexact HS
    iapply hR
    isplitl [HN]; · iexact HN
    iexact HP
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  exact BI.Entails.refl _

/-- A wait for a staging transfer is below everything owed at launch. -/
theorem mayWait_stage (c : Dev nD) (sm : SemLoc sig) (h : lv ((c : Thread nD τ), sm) () = 0) (O : CellTallies nD τ sig Unit) (hO : O = O₀ c ∨ O = 0) :
    (levAts L lv : SP F) ⊢ MayWait (c : Thread nD τ) sm () O := by
  have hp : ∀ g u, 0 < O g u → (∃ d, g = barCell d) ∨ ∃ d j, g = recvCell d j := fun g u hg => by
    rcases hO with rfl | rfl
    · unfold O₀ O₁ at hg
      rw [Pi.add_apply, Finsupp.add_apply, Pi.add_apply, Finsupp.add_apply, tallyAt_apply, tallyAt_apply] at hg
      by_cases h1 : g = barCell (prv c) ∧ u = ()
      · exact Or.inl ⟨_, h1.1⟩
      by_cases h2 : g = barCell (nxt c) ∧ u = ()
      · exact Or.inl ⟨_, h2.1⟩
      rw [if_neg h1, if_neg h2] at hg
      have hg' : 0 < D c 0 g u := by omega
      obtain ⟨j, -, hj⟩ := D_pos hg'
      exact Or.inr ⟨_, j, hj⟩
    · exact absurd hg (Nat.lt_irrefl 0)
  exact MayOwe.of_cut (L := L) (lev := lv) 0
    (fun p hp => by rw [Finset.mem_singleton.mp hp, L_tc]; exact Finset.mem_singleton_self _)
    (fun g u hg => by rcases hp g u hg with ⟨d, rfl⟩ | ⟨d, j, rfl⟩ <;> rw [L_tc] <;> exact Finset.mem_singleton_self _)
    (fun p hp => by rw [Finset.mem_singleton.mp hp, h])
    (fun g u hg => by
      rcases hp g u hg with ⟨d, rfl⟩ | ⟨d, j, rfl⟩
      · rw [lv_bar]; exact Nat.one_pos
      · rw [lv_recv]; omega)

theorem waits (c : Dev nD) : (levAts L lv : SP F) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of eight devices, for any float values, from any memory with zero counters: every weakly fair
    execution terminates, and every final state has each window's array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An input's array after the run holds what it held. -/
theorem finalA_in0 (c : Dev nD) : finalA m ρ c (0 : Fin 6) = m ((c : Thread nD τ).loc main_arg0) := (dats (F := F) m ρ 0 c).arrAt_in (0 : Fin 6) rfl _
theorem finalA_in1 (c : Dev nD) : finalA m ρ c (1 : Fin 6) = m ((c : Thread nD τ).loc main_arg1) := (dats (F := F) m ρ 0 c).arrAt_in (1 : Fin 6) rfl _
theorem finalA_in2 (c : Dev nD) : finalA m ρ c (2 : Fin 6) = m ((c : Thread nD τ).loc main_arg4) := (dats (F := F) m ρ 0 c).arrAt_in (2 : Fin 6) rfl _
theorem finalA_in3 (c : Dev nD) : finalA m ρ c (3 : Fin 6) = m ((c : Thread nD τ).loc main_arg2) := (dats (F := F) m ρ 0 c).arrAt_in (3 : Fin 6) rfl _
theorem finalA_in4 (c : Dev nD) : finalA m ρ c (4 : Fin 6) = m ((c : Thread nD τ).loc main_arg3) := (dats (F := F) m ρ 0 c).arrAt_in (4 : Fin 6) rfl _

/-- The run as the claims state it: the arguments unchanged, every counter at zero, the result at its computed contents. -/
theorem run_all : θ_run defs (onTc (τ := τ) (main (F := F))) ⟨m, fun _ => 0, ρ⟩ (fun r =>
    ((∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0)
    ∧ ∀ c : Dev nD, r.2.mem ((c : Thread nD τ).loc main_v1) = finalA m ρ c (5 : Fin 6)) :=
  (run_main m ρ).mono fun r h => ⟨⟨fun c => ⟨(h.1 c (0 : Fin 6)).trans (finalA_in0 m ρ c), (h.1 c (1 : Fin 6)).trans (finalA_in1 m ρ c),
    (h.1 c (3 : Fin 6)).trans (finalA_in3 m ρ c), (h.1 c (4 : Fin 6)).trans (finalA_in4 m ρ c),
    (h.1 c (2 : Fin 6)).trans (finalA_in2 m ρ c)⟩, h.2⟩, fun c => h.1 c (5 : Fin 6)⟩

end Cert.KernelIdeal.Gen.Mine
-- ==== Proof.Twin.lean ====
module

public import proofs.«01_k».proof.Proof.Start
public import proofs.«01_k».proof.Proof.Gen.Kernel
public import proofs.«01_k».proof.Defs

/-! # The program as printed

The printed program and its idealized reading are the same text, so what is proved of one's runs, for any float values,
is proved of the other's. -/

@[expose] public section

set_option maxRecDepth 65536

noncomputable section

namespace Cert.KernelIdeal.Gen.Mine

open Idealize.ShloMosaic Idealize.SL.Sem

/-- The two programs' frames, for the same float values, are one statement. -/
theorem frames_same {F : FTy → Type} [FloatOps F] :
    (∀ (m : (ℓ : Loc Cert.Kernel.nD Cert.Kernel.τ Cert.Kernel.sig) → Buf (Elt F) ℓ) (g : Dev Cert.Kernel.nD → PrngReg),
      θ_run (Cert.Kernel.defs (F := F)) (onTc (τ := Cert.Kernel.τ) (Cert.Kernel.main (F := F))) ⟨m, fun _ => 0, g⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
        ∧ r.2.sem = fun _ => 0))
    = (∀ (m : (ℓ : Loc Cert.KernelIdeal.nD Cert.KernelIdeal.τ Cert.KernelIdeal.sig) → Buf (Elt F) ℓ) (g : Dev Cert.KernelIdeal.nD → PrngReg),
      θ_run (Cert.KernelIdeal.defs (F := F)) (onTc (τ := Cert.KernelIdeal.τ) (Cert.KernelIdeal.main (F := F))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0)) := by
  sl_kernel_rfl

end Cert.KernelIdeal.Gen.Mine
-- ==== Proof.RefRun.lean ====
module

public import proofs.«01_k».proof.Proof.Gen.ReferenceIdeal
public import Idealize.ShloMosaic.Lib.Claim
public import Idealize.ShloMosaic.Lib.Quiescent
public import Idealize.ShloMosaic.Lib.Pointwise

/-! # The reference's run

The reference is a line of host operations on one device. Its result is named here step by step: projections, scores, the
running maximum, the weights, their sum, and the last product. -/

@[expose] public section

set_option maxRecDepth 65536
set_option maxHeartbeats 4000000

noncomputable section

namespace Cert.ReferenceIdeal.Gen.Mine

open Cert.ReferenceIdeal Cert.ReferenceIdeal.Gen
open Idealize.ShloMosaic Idealize.ShloMosaic.TcCoe Idealize.SL.Sem
open Facts₀

/-- A projection of every row, by heads. -/
def rProj (x : FVec Ideal S2x1024x512 .f32) (w : FVec Ideal S512x4096 .f32) : FVec Ideal S2x1024x64x64 .f32 :=
  shapeCast S2x1024x64x64 (Host.dotGeneral dot_S2x1024x512_S512x4096_S2x1024x4096_2_0_01_1_n_n none x w) shapeCasts_S2x1024x4096_S2x1024x64x64

/-- The scaled scores. -/
def rScore (x : FVec Ideal S2x1024x512 .f32) (wq wk : FVec Ideal S512x4096 .f32) : FVec Ideal S2x64x1024x1024 .f32 :=
  mulf (Host.dotGeneral dot_S2x1024x64x64_S2x1024x64x64_S2x64x1024x1024_3_3_1_1_02_02 none (rProj x wq) (rProj x wk))
    (broadcastInDim S2x64x1024x1024 ![] bcast_S_S2x64x1024x1024 (constant S_ .f32 0x3E000000#32))

/-- Minus infinity for every row: the maximum before the first block. -/
def rBot : FVec Ideal S2x64x1024x1 .f32 := broadcastInDim S2x64x1024x1 ![] bcast_S_S2x64x1024x1 (constant S_ .f32 0xFF800000#32)

/-- The maximum of each row of scores. -/
def rMax (s : FVec Ideal S2x64x1024x1024 .f32) : FVec Ideal S2x64x1024x1 .f32 :=
  maximumf rBot (broadcastInDim S2x64x1024x1 ![0, 1, 2] bcast_S2x64x1024_S2x64x1024x1_0_1_2
    (Host.reduce FloatOps.maximumf s (constant S_ .f32 0xFF800000#32) reducesTo_S2x64x1024x1024_S2x64x1024_d3 h_S_))

/-- What the first step's change of maximum multiplies the running sums by. -/
def rAlpha (s : FVec Ideal S2x64x1024x1024 .f32) : FVec Ideal S2x64x1024x1 .f32 := Host.exp (subf rBot (rMax s))

/-- The weights. -/
def rWt (s : FVec Ideal S2x64x1024x1024 .f32) : FVec Ideal S2x64x1024x1024 .f32 :=
  Host.exp (subf s (broadcastInDim S2x64x1024x1024 ![0, 1, 2, 3] bcast_S2x64x1024x1_S2x64x1024x1024_0_1_2_3 (rMax s)))

/-- The sum of each row of weights. -/
def rSum (s : FVec Ideal S2x64x1024x1024 .f32) : FVec Ideal S2x64x1024x1 .f32 :=
  addf (mulf (broadcastInDim S2x64x1024x1 ![] bcast_S_S2x64x1024x1 (constant S_ .f32 0x00000000#32)) (rAlpha s))
    (broadcastInDim S2x64x1024x1 ![0, 1, 2] bcast_S2x64x1024_S2x64x1024x1_0_1_2
      (Host.reduceAdd (rWt s) (constant S_ .f32 0x00000000#32) reducesTo_S2x64x1024x1024_S2x64x1024_d3 h_S_))

/-- The weighted sums of the values. -/
def rTop (s : FVec Ideal S2x64x1024x1024 .f32) (v : FVec Ideal S2x1024x64x64 .f32) : FVec Ideal S2x1024x64x64 .f32 :=
  addf (mulf (broadcastInDim S2x1024x64x64 ![] bcast_S_S2x1024x64x64 (constant S_ .f32 0x00000000#32))
      (broadcastInDim S2x1024x64x64 ![0, 1, 2, 3] bcast_S2x1024x64x1_S2x1024x64x64_0_1_2_3
        (transpose S2x1024x64x1 [0, 2, 1, 3] (rAlpha s) transposes_S2x64x1024x1_S2x1024x64x1_0_2_1_3)))
    (transpose S2x1024x64x64 [0, 3, 1, 2] (Host.dotGeneral dot_S2x1024x64x64_S2x64x1024x1024_S2x64x64x1024_1_3_3_2_02_01 none v (rWt s))
      transposes_S2x64x64x1024_S2x1024x64x64_0_3_1_2)

/-- The attention of every head. -/
def rAtt (s : FVec Ideal S2x64x1024x1024 .f32) (v : FVec Ideal S2x1024x64x64 .f32) : FVec Ideal S2x1024x64x64 .f32 :=
  Host.divf (rTop s v) (broadcastInDim S2x1024x64x64 ![0, 1, 2, 3] bcast_S2x1024x64x1_S2x1024x64x64_0_1_2_3
    (transpose S2x1024x64x1 [0, 2, 1, 3] (rSum s) transposes_S2x64x1024x1_S2x1024x64x1_0_2_1_3))

/-- The reference's result. -/
def rOut (x : FVec Ideal S2x1024x512 .f32) (wq wk wv : FVec Ideal S512x4096 .f32) (wo : FVec Ideal S4096x512 .f32) : FVec Ideal S2x1024x512 .f32 :=
  Host.dotGeneral dot_S2x1024x4096_S4096x512_S2x1024x512_2_0_01_1_n_n none
    (shapeCast S2x1024x4096 (rAtt (rScore x wq wk) (rProj x wv)) shapeCasts_S2x1024x64x64_S2x1024x4096) wo

/-- The reference runs, ends with its result as named, its arguments unchanged and every counter at zero. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v34) = rOut (m (c.tc.loc main_arg0)) (m (c.tc.loc main_arg1)) (m (c.tc.loc main_arg2))
        (m (c.tc.loc main_arg3)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  hlo_run
  · exact fun c => ⟨rfl, trivial, trivial, trivial, trivial, trivial⟩
  · exact sem_eq_zero_of_no_sems rfl _

end Cert.ReferenceIdeal.Gen.Mine
-- ==== Proof.Softmax.lean ====
module

public import Idealize.ShloMosaic.Lib.Pointwise

/-! # Weights and sums over the extended reals

Subtracting one real from every score changes neither the weights' ratio nor the weighted sum's, and a finite family of reals has a
real maximum. -/

@[expose] public section

noncomputable section

namespace Cert.Attention

open Idealize.ShloMosaic

/-- A sum of reals is real. -/
theorem sum_coe {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A nonnegative real distributes over any finite sum. -/
theorem coe_mul_sum {ι : Type} (S : Finset ι) (f : ι → EReal) (c : ℝ) (hc : 0 ≤ c) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (by exact_mod_cast hc) (EReal.coe_ne_top c)]

/-- Weights of shifted scores give the quotient that the weights of the scores themselves give. -/
theorem softmax_shift {n : Nat} (s v : Fin (n + 1) → EReal) (hs : ∀ t, ∃ r : ℝ, s t = r) (m : ℝ) :
    Ideal.div (∑ t, v t * Ideal.exp (s t - m)) (∑ t, Ideal.exp (s t - m))
      = Ideal.div (∑ t, Ideal.exp (s t) * v t) (∑ t, Ideal.exp (s t)) := by
  choose f hf using hs
  have e1 : ∀ t, Ideal.exp (s t - m) = ((Real.exp (-m) : ℝ) : EReal) * ((Real.exp (f t) : ℝ) : EReal) := fun t => by
    rw [hf t, ← EReal.coe_sub, Ideal.exp_coe, ← EReal.coe_mul, ← Real.exp_add, neg_add_eq_sub]
  have e2 : ∀ t, Ideal.exp (s t) = ((Real.exp (f t) : ℝ) : EReal) := fun t => by rw [hf t, Ideal.exp_coe]
  have hc : 0 < Real.exp (-m) := Real.exp_pos _
  have hL : 0 < ∑ t, Real.exp (f t) := Finset.sum_pos (fun t _ => Real.exp_pos _) ⟨0, Finset.mem_univ _⟩
  have top : ∑ t, v t * Ideal.exp (s t - m) = ((Real.exp (-m) : ℝ) : EReal) * ∑ t, Ideal.exp (s t) * v t := by
    rw [coe_mul_sum _ _ _ hc.le]
    refine Finset.sum_congr rfl fun t _ => ?_
    rw [e1, e2, mul_comm, mul_assoc]
  have bot : ∑ t, Ideal.exp (s t - m) = ((Real.exp (-m) * ∑ t, Real.exp (f t) : ℝ) : EReal) := by
    rw [EReal.coe_mul, ← sum_coe, coe_mul_sum _ _ _ hc.le]
    exact Finset.sum_congr rfl fun t _ => e1 t
  have bot' : ∑ t, Ideal.exp (s t) = ((∑ t, Real.exp (f t) : ℝ) : EReal) := by
    rw [← sum_coe]
    exact Finset.sum_congr rfl fun t _ => e2 t
  rw [top, bot, bot', Ideal.div_coe (mul_pos hc hL).ne', Ideal.div_coe hL.ne', mul_comm ((Real.exp (-m) : ℝ) : EReal), mul_assoc,
    ← EReal.coe_mul]
  congr 2
  field_simp

/-- A finite nonempty family of reals has a real maximum, from minus infinity on. -/
theorem fold_max_real {n : Nat} (f : Fin (n + 1) → EReal) (hf : ∀ i, ∃ r : ℝ, f i = r) :
    ∃ r : ℝ, max ⊥ (Finset.fold max ⊥ f Finset.univ) = r := by
  rw [max_eq_right bot_le]
  have h1 : Finset.fold max ⊥ f Finset.univ < ⊤ := by
    rw [Finset.fold_max_lt]
    exact ⟨bot_lt_top, fun i _ => by obtain ⟨r, hr⟩ := hf i; rw [hr]; exact EReal.coe_lt_top r⟩
  have h2 : ⊥ < Finset.fold max ⊥ f Finset.univ := by
    rw [Finset.lt_fold_max]
    exact .inr ⟨0, Finset.mem_univ _, by obtain ⟨r, hr⟩ := hf 0; rw [hr]; exact EReal.bot_lt_coe r⟩
  exact ⟨_, (EReal.coe_toReal h1.ne h2.ne').symm⟩

/-- The bits of the scale are a real's. -/
theorem scale_real : ∃ r : ℝ, Ideal.ofBits FTy.f32 0x3E000000#32 = (r : EReal) := ⟨1 / 8, by
  simp [Ideal.ofBits, Ideal.ieee]; rw [← EReal.coe_mul]; norm_num⟩

/-- The bits of minus infinity are its. -/
theorem ofBits_bot : Ideal.ofBits FTy.f32 0xFF800000#32 = ⊥ := by simp [Ideal.ofBits, Ideal.ieee]

/-- A product of two reals is real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of reals is real. -/
theorem real_sum {n : Nat} {f : Fin n → EReal} (hf : ∀ i, ∃ r : ℝ, f i = r) : ∃ r : ℝ, ∑ i, f i = r := by
  choose g hg using hf
  exact ⟨∑ i, g i, by rw [← sum_coe]; exact Finset.sum_congr rfl fun i _ => hg i⟩

/-! ## The specification, over arrays read at numbers -/

/-- One column of a projection of a row. -/
def proj (X : Nat → Nat → Nat → EReal) (W : Nat → Nat → EReal) (b R i : Nat) : EReal := ∑ k : Fin 512, X b R k.val * W k.val i

/-- The score of two rows on the head whose columns start at `c`. -/
def score (Q K : Nat → Nat → Nat → EReal) (b R t c : Nat) : EReal :=
  (∑ e : Fin 64, Q b R (c + e.val) * K b t (c + e.val)) * Ideal.ofBits FTy.f32 0x3E000000#32

/-- Entry `d` of that head's attention. -/
def head (Q K V : Nat → Nat → Nat → EReal) (b R c d : Nat) : EReal :=
  Ideal.div (∑ t : Fin 1024, Ideal.exp (score Q K b R t.val c) * V b t.val (c + d)) (∑ t : Fin 1024, Ideal.exp (score Q K b R t.val c))

/-- That head's share of the result. -/
def headOut (Q K V : Nat → Nat → Nat → EReal) (W : Nat → Nat → EReal) (b R j c : Nat) : EReal :=
  ∑ d : Fin 64, head Q K V b R c d.val * W (c + d.val) j

/-- A sum over `m·n` numbers, in `m` runs of `n`. -/
theorem sum_runs {M : Type} [AddCommMonoid M] {N : Nat} (m n : Nat) (h : N = m * n) (f : Nat → M) :
    ∑ k : Fin N, f k.val = ∑ u : Fin m, ∑ d : Fin n, f (n * u.val + d.val) := by
  subst h
  rw [← Finset.sum_product', Finset.univ_product_univ, ← Equiv.sum_comp (finProdFinEquiv (m := m) (n := n))]
  refine Finset.sum_congr rfl fun x _ => ?_
  congr 1
  simp [finProdFinEquiv, add_comm]

end Cert.Attention
-- ==== Proof.RefValue.lean ====
module

public import proofs.«01_k».proof.Proof.RefRun
public import proofs.«01_k».proof.Proof.Softmax
public import Idealize.ShloMosaic.PureOps.Ideal.Laws

/-! # The reference's result, entry by entry -/

@[expose] public section

noncomputable section

namespace Cert.ReferenceIdeal.Gen.Mine

open Cert.ReferenceIdeal Cert.ReferenceIdeal.Gen
open Idealize.ShloMosaic Idealize.ShloMosaic.TcCoe Idealize.SL.Sem
open Facts₀ Cert.Attention

/-- An entry of a projection. -/
theorem rProj_apply (x w) (b : Fin 2) (r : Fin 1024) (h d : Fin 64) :
    rProj x w (ix4 b r h d) = ∑ k : Fin 512, x (ix3 b r k) * w (ix2 k ⟨h.val * 64 + d.val, by omega⟩) := by
  pointwise [rProj]

/-- A score. -/
theorem rScore_apply (x wq wk) (b : Fin 2) (r t : Fin 1024) (h : Fin 64) :
    rScore x wq wk (ix4 b h r t) = (∑ k : Fin 64, rProj x wq (ix4 b r h k) * rProj x wk (ix4 b t h k)) * Ideal.ofBits FTy.f32 0x3E000000#32 := by
  pointwise [rScore]

/-- A weight. -/
theorem rWt_apply (s) (b : Fin 2) (r t : Fin 1024) (h : Fin 64) :
    rWt s (ix4 b h r t) = Ideal.exp (s (ix4 b h r t) - rMax s (ix4 b h r 0)) := by
  pointwise [rWt]

/-- A row's sum of weights. -/
theorem rSum_apply (s) (b : Fin 2) (r : Fin 1024) (h : Fin 64) :
    rSum s (ix4 b h r 0) = ∑ t : Fin 1024, rWt s (ix4 b h r t) := by
  pointwise [rSum]
  rw [zero_mul, zero_add]

/-- A weighted sum of values. -/
theorem rTop_apply (s v) (b : Fin 2) (r : Fin 1024) (h d : Fin 64) :
    rTop s v (ix4 b r h d) = ∑ t : Fin 1024, v (ix4 b t h d) * rWt s (ix4 b h r t) := by
  pointwise [rTop]
  rw [zero_mul, zero_add]

/-- An entry of a head's attention. -/
theorem rAtt_apply (s v) (b : Fin 2) (r : Fin 1024) (h d : Fin 64) :
    rAtt s v (ix4 b r h d) = Ideal.div (rTop s v (ix4 b r h d)) (rSum s (ix4 b h r 0)) := by
  pointwise [rAtt]

/-- An entry of the result. -/
theorem rOut_apply (x wq wk wv wo) (b : Fin 2) (r : Fin 1024) (j : Fin 512) :
    rOut x wq wk wv wo (ix3 b r j) = ∑ k : Fin 4096,
      rAtt (rScore x wq wk) (rProj x wv) (ix4 b r ⟨k.val / 64, by omega⟩ ⟨k.val % 64, by omega⟩) * wo (ix2 k j) := by
  pointwise [rOut]

/-- Each row's maximum, without the unit axis. -/
def rRed (s : FVec Ideal S2x64x1024x1024 .f32) : FVec Ideal S2x64x1024 .f32 :=
  Host.reduce FloatOps.maximumf s (constant S_ .f32 0xFF800000#32) reducesTo_S2x64x1024x1024_S2x64x1024_d3 h_S_

/-- The maximum of a row of real scores is real. -/
theorem rRed_real (s : FVec Ideal S2x64x1024x1024 .f32) (hs : ∀ i, ∃ r : ℝ, s i = (r : EReal)) (j) :
    ∃ r : ℝ, max ⊥ (rRed s j) = (r : EReal) := by
  have hr : S2x64x1024x1024.Reduces [3] S2x64x1024 := by decide
  unfold rRed
  rw [Host.reduce_eq_fold_single _ _ _ _ hr]
  have hb : constant (F := Ideal) S_ .f32 0xFF800000#32 (Shape.Idx.first h_S_) = ⊥ := ofBits_bot
  rw [hb]
  exact fold_max_real (n := 1023) (s ∘ hr.lift j) fun i => hs _

/-- So is the maximum that the reference subtracts. -/
theorem rMax_real (s : FVec Ideal S2x64x1024x1024 .f32) (hs : ∀ i, ∃ r : ℝ, s i = (r : EReal)) (b : Fin 2) (r : Fin 1024) (h : Fin 64) :
    ∃ m : ℝ, rMax s (ix4 b h r 0) = (m : EReal) := by
  have : rMax s (ix4 b h r 0) = max ⊥ (rRed s (ix3 b h r)) := by
    show maximumf rBot (broadcastInDim S2x64x1024x1 ![0, 1, 2] bcast_S2x64x1024_S2x64x1024x1_0_1_2 (rRed s)) (ix4 b h r 0) = _
    have h1 : rBot (ix4 b h r 0) = ⊥ := by
      pointwise [rBot]
      exact ofBits_bot
    have h2 : ∀ q : FVec Ideal S2x64x1024 .f32,
        broadcastInDim S2x64x1024x1 ![0, 1, 2] bcast_S2x64x1024_S2x64x1024x1_0_1_2 q (ix4 b h r 0) = q (ix3 b h r) := by
      intro q; pointwise
    have h3 : ∀ p q : FVec Ideal S2x64x1024x1 .f32, maximumf p q (ix4 b h r 0) = max (p (ix4 b h r 0)) (q (ix4 b h r 0)) := fun _ _ => rfl
    rw [h3, h1, h2]
  rw [this]
  exact rRed_real s hs _

/-- The reference's attention of real scores, without the maximum. -/
theorem rAtt_real (s : FVec Ideal S2x64x1024x1024 .f32) (hs : ∀ i, ∃ r : ℝ, s i = (r : EReal)) (v) (b : Fin 2) (r : Fin 1024)
    (h d : Fin 64) : rAtt s v (ix4 b r h d)
      = Ideal.div (∑ t : Fin 1024, Ideal.exp (s (ix4 b h r t)) * v (ix4 b t h d)) (∑ t : Fin 1024, Ideal.exp (s (ix4 b h r t))) := by
  obtain ⟨m, hm⟩ := rMax_real s hs b r h
  have hw : ∀ t, rWt s (ix4 b h r t) = Ideal.exp (s (ix4 b h r t) - (m : EReal)) := fun t => by rw [rWt_apply, hm]
  rw [rAtt_apply, rTop_apply, rSum_apply]
  simp only [hw]
  exact softmax_shift (n := 1023) (fun t => s (ix4 b h r t)) (fun t => v (ix4 b t h d)) (fun t => hs _) m

end Cert.ReferenceIdeal.Gen.Mine
-- ==== Proof.RefSpec.lean ====
module

public import proofs.«01_k».proof.Proof.RefValue

/-! # The reference's result as a sum over the heads -/

@[expose] public section

noncomputable section

namespace Cert.Attention

open Idealize.ShloMosaic

/-- A tokens array at any three numbers. -/
def at3 (A : FVec Ideal ⟨3, ![2, 1024, 512]⟩ .f32) (b R k : Nat) : EReal := A (ix3 (Fin.ofNat 2 b) (Fin.ofNat 1024 R) (Fin.ofNat 512 k))

/-- A projection's weights at any two numbers. -/
def atW (W : FVec Ideal ⟨2, ![512, 4096]⟩ .f32) (k i : Nat) : EReal := W (ix2 (Fin.ofNat 512 k) (Fin.ofNat 4096 i))

/-- The output projection's weights at any two numbers. -/
def atO (W : FVec Ideal ⟨2, ![4096, 512]⟩ .f32) (k j : Nat) : EReal := W (ix2 (Fin.ofNat 4096 k) (Fin.ofNat 512 j))

/-- A number below the bound names itself. -/
theorem ofNat_val {n : Nat} [NeZero n] (i : Fin n) : Fin.ofNat n i.val = i := Fin.ext (Nat.mod_eq_of_lt i.isLt)

/-- A number below the bound names the index that it bounds. -/
theorem ofNat_lt {n : Nat} [NeZero n] (i : Nat) (h : i < n) : Fin.ofNat n i = ⟨i, h⟩ := Fin.ext (Nat.mod_eq_of_lt h)

/-- At an index's own numbers it is the array at that index. -/
theorem at3_val (A) (b : Fin 2) (R : Fin 1024) (k : Fin 512) : at3 A b.val R.val k.val = A (ix3 b R k) := by
  rw [at3, ofNat_val, ofNat_val, ofNat_val]

/-- Eight devices' heads: the share that device `p`'s eight heads have of the result. -/
def share (Q K V : Nat → Nat → Nat → EReal) (W : Nat → Nat → EReal) (b R j p : Nat) : EReal :=
  ∑ u : Fin 8, headOut Q K V W b R j (512 * p + 64 * u.val)

/-- The result of the whole problem at an entry. -/
def whole (x : FVec Ideal ⟨3, ![2, 1024, 512]⟩ .f32) (wq wk wv : FVec Ideal ⟨2, ![512, 4096]⟩ .f32)
    (wo : FVec Ideal ⟨2, ![4096, 512]⟩ .f32) (b R j p : Nat) : EReal :=
  share (proj (at3 x) (atW wq)) (proj (at3 x) (atW wk)) (proj (at3 x) (atW wv)) (atO wo) b R j p

end Cert.Attention

namespace Cert.ReferenceIdeal.Gen.Mine

open Cert.ReferenceIdeal Cert.ReferenceIdeal.Gen
open Idealize.ShloMosaic Idealize.ShloMosaic.TcCoe Idealize.SL.Sem
open Facts₀ Cert.Attention

/-- A projection's entry is the specification's. -/
theorem rProj_eq (x w) (b : Fin 2) (r : Fin 1024) (h d : Fin 64) :
    rProj x w (ix4 b r h d) = proj (at3 x) (atW w) b.val r.val (64 * h.val + d.val) := by
  rw [rProj_apply, proj]
  refine Finset.sum_congr rfl fun k _ => ?_
  rw [at3_val, atW, ofNat_val, ofNat_lt (64 * h.val + d.val) (by omega)]
  have hc : (⟨h.val * 64 + d.val, by omega⟩ : Fin 4096) = ⟨64 * h.val + d.val, by omega⟩ :=
    Fin.ext (by show h.val * 64 + d.val = 64 * h.val + d.val; omega)
  rw [hc]

/-- A score is the specification's. -/
theorem rScore_eq (x wq wk) (b : Fin 2) (r t : Fin 1024) (h : Fin 64) : rScore x wq wk (ix4 b h r t)
      = score (proj (at3 x) (atW wq)) (proj (at3 x) (atW wk)) b.val r.val t.val (64 * h.val) := by
  rw [rScore_apply, score]
  congr 1
  refine Finset.sum_congr rfl fun e _ => ?_
  rw [rProj_eq, rProj_eq]

/-- A projection of real tokens by real weights is real. -/
theorem rProj_real (x w) (hx : ∀ i, ∃ r : ℝ, x i = (r : EReal)) (hw : ∀ i, ∃ r : ℝ, w i = (r : EReal)) (b : Fin 2) (r : Fin 1024)
    (h d : Fin 64) : ∃ q : ℝ, rProj x w (ix4 b r h d) = (q : EReal) := by
  rw [rProj_apply]
  exact real_sum fun k => real_mul (hx _) (hw _)

/-- Scores of real arrays are real. -/
theorem rScore_real (x wq wk) (hx : ∀ i, ∃ r : ℝ, x i = (r : EReal)) (hq : ∀ i, ∃ r : ℝ, wq i = (r : EReal))
    (hk : ∀ i, ∃ r : ℝ, wk i = (r : EReal)) (i) : ∃ q : ℝ, rScore x wq wk i = (q : EReal) := by
  obtain ⟨b, h, r, t, rfl⟩ : ∃ (b : Fin 2) (h : Fin 64) (r t : Fin 1024), i = ix4 b h r t :=
    ⟨i 0, i 1, i 2, i 3, by funext a; fin_cases a <;> rfl⟩
  rw [rScore_apply]
  exact real_mul (real_sum fun k => real_mul (rProj_real x wq hx hq _ _ _ _) (rProj_real x wk hx hk _ _ _ _)) scale_real

/-- The reference's result at an entry is the sum of the eight devices' shares. -/
theorem rOut_eq (x wq wk wv wo) (hx : ∀ i, ∃ r : ℝ, x i = (r : EReal)) (hq : ∀ i, ∃ r : ℝ, wq i = (r : EReal))
    (hk : ∀ i, ∃ r : ℝ, wk i = (r : EReal)) (b : Fin 2) (r : Fin 1024) (j : Fin 512) :
    rOut x wq wk wv wo (ix3 b r j) = ∑ p : Fin 8, whole x wq wk wv wo b.val r.val j.val p.val := by
  have hs := rScore_real x wq wk hx hq hk
  let f : Nat → EReal := fun n =>
    head (proj (at3 x) (atW wq)) (proj (at3 x) (atW wk)) (proj (at3 x) (atW wv)) b.val r.val (64 * (n / 64)) (n % 64) * atO wo n j.val
  have e : ∀ k : Fin 4096, rAtt (rScore x wq wk) (rProj x wv) (ix4 b r ⟨k.val / 64, by omega⟩ ⟨k.val % 64, by omega⟩) * wo (ix2 k j)
      = f k.val := fun k => by
    rw [rAtt_real _ hs]
    simp only [rScore_eq, rProj_eq, head, f, atO, ofNat_val]
  rw [rOut_apply, Finset.sum_congr rfl fun k _ => e k, sum_runs 64 64 rfl f,
    sum_runs 8 8 rfl fun h => ∑ d : Fin 64, f (64 * h + d.val)]
  refine Finset.sum_congr rfl fun p _ => ?_
  rw [whole, share]
  refine Finset.sum_congr rfl fun u _ => ?_
  rw [headOut]
  refine Finset.sum_congr rfl fun d _ => ?_
  have h1 : 64 * ((64 * (8 * p.val + u.val) + d.val) / 64) = 512 * p.val + 64 * u.val := by omega
  have h2 : (64 * (8 * p.val + u.val) + d.val) % 64 = d.val := by omega
  have h3 : 64 * (8 * p.val + u.val) + d.val = 512 * p.val + 64 * u.val + d.val := by omega
  show head _ _ _ _ _ (64 * ((64 * (8 * p.val + u.val) + d.val) / 64)) ((64 * (8 * p.val + u.val) + d.val) % 64) * atO wo (64 * (8 * p.val + u.val) + d.val) _ = _
  rw [h1, h2, h3]

end Cert.ReferenceIdeal.Gen.Mine
-- ==== Proof.KerValue.lean ====
module

public import proofs.«01_k».proof.Proof.Values
public import proofs.«01_k».proof.Proof.RefSpec

/-! # The kernel's payloads, entry by entry -/

@[expose] public section

noncomputable section

namespace Cert.KernelIdeal.Gen.Mine

open Cert.KernelIdeal Cert.KernelIdeal.Gen
open Idealize.ShloMosaic Idealize.ShloMosaic.TcCoe Idealize.SL.Sem
open Cert.Attention

/-- A row block's product with the packed weights. -/
theorem pay78_apply (X : Vec Ideal S2x128x512 .bf16) (W : Vec Ideal S512x1536 .bf16) (b : Fin 2) (r : Fin 128) (i : Fin 1536) :
    (k0_pay78 X W (ix2 ⟨128 * b.val + r.val, by omega⟩ i) : EReal) = ∑ k : Fin 512, (X (ix3 b r k) : EReal) * (W (ix2 k i) : EReal) := by
  have h1 : (⟨(128 * b.val + r.val) / 128, by omega⟩ : Fin 2) = b := Fin.ext (by show (128 * b.val + r.val) / 128 = b.val; omega)
  have h2 : (⟨(128 * b.val + r.val) % 128, by omega⟩ : Fin 128) = r := Fin.ext (by show (128 * b.val + r.val) % 128 = r.val; omega)
  pointwise [k0_pay78]

/-- A row block's queries, -/
theorem qP_apply (X : Vec Ideal S2x128x512 .bf16) (W : Vec Ideal S512x1536 .bf16) (b : Fin 2) (r : Fin 128) (i : Fin 512) :
    (qP b X W (ix3 0 r i) : EReal) = k0_pay78 X W (ix2 ⟨128 * b.val + r.val, by omega⟩ ⟨i.val, by omega⟩) := by
  fin_cases b
  · show (k0_pay80 X W (ix3 0 r i) : EReal) = _
    pointwise [k0_pay80, k0_pay79]
  · show (k0_pay86 (k0_pay78 X W) (ix3 0 r i) : EReal) = _
    pointwise [k0_pay86, k0_pay85]

/-- keys, -/
theorem kP_apply (X : Vec Ideal S2x128x512 .bf16) (W : Vec Ideal S512x1536 .bf16) (b : Fin 2) (r : Fin 128) (i : Fin 512) :
    (kP b X W (ix3 0 r i) : EReal) = k0_pay78 X W (ix2 ⟨128 * b.val + r.val, by omega⟩ ⟨512 + i.val, by omega⟩) := by
  fin_cases b
  · show (k0_pay81 X W (ix3 0 r i) : EReal) = _
    pointwise [k0_pay81, k0_pay79]
  · show (k0_pay87 (k0_pay78 X W) (ix3 0 r i) : EReal) = _
    pointwise [k0_pay87, k0_pay85]

/-- and values. -/
theorem vP_apply (X : Vec Ideal S2x128x512 .bf16) (W : Vec Ideal S512x1536 .bf16) (b : Fin 2) (r : Fin 128) (i : Fin 512) :
    (vP b X W (ix3 0 r i) : EReal) = k0_pay78 X W (ix2 ⟨128 * b.val + r.val, by omega⟩ ⟨1024 + i.val, by omega⟩) := by
  fin_cases b
  · show (k0_pay83 (k0_pay82 X W) (ix3 0 r i) : EReal) = _
    pointwise [k0_pay83, k0_pay82, k0_pay79]
  · show (k0_pay88 (k0_pay78 X W) (ix3 0 r i) : EReal) = _
    pointwise [k0_pay88, k0_pay85]

/-- One head's addition. -/
def hAdd (q : Vec Ideal S1x256x128 .bf16) (k v : Vec Ideal S1x1024x128 .bf16) (w : Vec Ideal S128x512 .bf16) (r : Fin 256) (j : Fin 512)
    (o : Fin 2) : EReal :=
  ∑ x : Fin 64, Ideal.div
    (∑ t : Fin 1024, Ideal.exp ((∑ e : Fin 64, (q (ix3 0 r ⟨64 * o.val + e.val, by omega⟩) : EReal) * k (ix3 0 t ⟨64 * o.val + e.val, by omega⟩))
      * Ideal.ofBits FTy.f32 0x3E000000#32) * v (ix3 0 t ⟨64 * o.val + x.val, by omega⟩))
    (∑ t : Fin 1024, Ideal.exp ((∑ e : Fin 64, (q (ix3 0 r ⟨64 * o.val + e.val, by omega⟩) : EReal) * k (ix3 0 t ⟨64 * o.val + e.val, by omega⟩))
      * Ideal.ofBits FTy.f32 0x3E000000#32)) * w (ix2 ⟨64 * o.val + x.val, by omega⟩ j)

/-- The first head of a trip. -/
theorem pay4_apply (acc : Vec Ideal S256x512 .f32) (q : Vec Ideal S1x256x128 .bf16) (k v : Vec Ideal S1x1024x128 .bf16)
    (w : Vec Ideal S128x512 .bf16) (r : Fin 256) (j : Fin 512) :
    (k0_pay4 acc q k v w (ix2 r j) : EReal) = acc (ix2 r j) + hAdd q k v w r j 0 := by
  unfold hAdd
  pointwise [k0_pay4, k0_pay3, k0_pay2, k0_pay1]

/-- Both heads of a trip. -/
theorem headP_apply (acc : Vec Ideal S256x512 .f32) (q : Vec Ideal S1x256x128 .bf16) (k v : Vec Ideal S1x1024x128 .bf16)
    (w : Vec Ideal S128x512 .bf16) (r : Fin 256) (j : Fin 512) :
    (headP acc q k v w (ix2 r j) : EReal) = k0_pay4 acc q k v w (ix2 r j) + hAdd q k v w r j 1 := by
  unfold hAdd
  pointwise [headP, k0_pay175, k0_pay5, k0_pay6, k0_pay7, k0_pay8, k0_pay9, k0_pay3, k0_pay2, k0_pay1]

/-- The start of the sum. -/
theorem pay174_apply (r : Fin 256) (j : Fin 512) : (k0_pay174 (F := Ideal) (ix2 r j) : EReal) = 0 := by
  pointwise [k0_pay174]

/-- The rounding of a sum. -/
theorem partP_apply (v : FVec Ideal S256x512 .f32) (r : Fin 256) (j : Fin 512) : (partP v (ix3 0 r j) : EReal) = v (ix2 r j) := by
  pointwise [partP, k0_pay176]

/-- The sum of an arrived block and an own one. -/
theorem addP_apply (v : Vec Ideal S1x2x128x512 .bf16) (w : Vec Ideal S2x128x512 .bf16) (b : Fin 2) (r : Fin 128) (j : Fin 512) :
    (addP v w (ix4 0 b r j) : EReal) = v (ix4 0 b r j) + w (ix3 b r j) := by
  pointwise [addP, k0_pay187, k0_pay186]

/-- The result's three terms. -/
theorem outP_apply (w : Vec Ideal S2x128x512 .bf16) (u v : Vec Ideal S1x2x128x512 .bf16) (b : Fin 2) (r : Fin 128) (j : Fin 512) :
    (outP w u v (ix3 b r j) : EReal) = (w (ix3 b r j) : EReal) + u (ix4 0 b r j) + v (ix4 0 b r j) := by
  pointwise [outP, k0_pay206, k0_pay205]

/-- Roundings of the inputs. -/
theorem pay73_apply (X : Vec Ideal S2x128x512 .f32) (i) : (k0_pay73 X i : EReal) = X i := by
  pointwise [k0_pay73]
/-- A rounding changes nothing over the extended reals. -/
theorem pay74_apply (X : Vec Ideal S512x512 .f32) (i) : (k0_pay74 X i : EReal) = X i := by
  pointwise [k0_pay74]
/-- A rounding changes nothing over the extended reals. -/
theorem pay75_apply (X : Vec Ideal S512x512 .f32) (i) : (k0_pay75 X i : EReal) = X i := by
  pointwise [k0_pay75]
/-- A rounding changes nothing over the extended reals. -/
theorem pay76_apply (X : Vec Ideal S512x512 .f32) (i) : (k0_pay76 X i : EReal) = X i := by
  pointwise [k0_pay76]
/-- A rounding changes nothing over the extended reals. -/
theorem pay77_apply (X : Vec Ideal S512x512 .f32) (i) : (k0_pay77 X i : EReal) = X i := by
  pointwise [k0_pay77]

/-! ## The buffers -/

/-- The devices' inputs are the blocks of five whole arrays. -/
structure Blocks (I : Inp Ideal) (x : FVec Ideal ⟨3, ![2, 1024, 512]⟩ .f32) (wq wk wv : FVec Ideal ⟨2, ![512, 4096]⟩ .f32)
    (wo : FVec Ideal ⟨2, ![4096, 512]⟩ .f32) : Prop where
  x : ∀ (c : Dev nD) (b : Fin 2) (r : Fin 128) (k : Fin 512), I.x c (ix3 b r k) = at3 x b.val (128 * c.val + r.val) k.val
  wq : ∀ (c : Dev nD) (k i : Fin 512), I.wq c (ix2 k i) = atW wq k.val (512 * c.val + i.val)
  wk : ∀ (c : Dev nD) (k i : Fin 512), I.wk c (ix2 k i) = atW wk k.val (512 * c.val + i.val)
  wv : ∀ (c : Dev nD) (k i : Fin 512), I.wv c (ix2 k i) = atW wv k.val (512 * c.val + i.val)
  wo : ∀ (c : Dev nD) (k j : Fin 512), I.wo c (ix2 k j) = atO wo (512 * c.val + k.val) j.val

/-- Rows repeat after 1024. -/
theorem at3_mod (A) (b R R' k : Nat) (h : R % 1024 = R' % 1024) : at3 A b R k = at3 A b R' k := by
  have : Fin.ofNat 1024 R = Fin.ofNat 1024 R' := Fin.ext h
  rw [at3, at3, this]

namespace Blocks
variable {I : Inp Ideal} {x : FVec Ideal ⟨3, ![2, 1024, 512]⟩ .f32} {wq wk wv : FVec Ideal ⟨2, ![512, 4096]⟩ .f32}
  {wo : FVec Ideal ⟨2, ![4096, 512]⟩ .f32} (H : Blocks I x wq wk wv wo)
include H

/-- The row block of row `R` holds row `R`. -/
theorem xb_apply (R : Nat) (b : Fin 2) (k : Fin 512) :
    (I.xb (Inp.rowBlk R) (ix3 b ⟨R % 128, Nat.mod_lt _ (by decide)⟩ k) : EReal) = at3 x b.val R k.val := by
  rw [Inp.xb, pay73_apply, H.x]
  exact at3_mod _ _ _ _ _ (by show (128 * (R / 128 % 8) + R % 128) % 1024 = R % 1024; omega)

/-- The packed weights hold the queries' columns first, -/
theorem wcat_q (c : Dev nD) (k i : Fin 512) : (I.wcat c (ix2 k ⟨i.val, by omega⟩) : EReal) = atW wq k.val (512 * c.val + i.val) := by
  rw [← H.wq, ← pay74_apply (I.wq c)]
  exact dif_pos i.isLt

/-- then the keys', -/
theorem wcat_k (c : Dev nD) (k i : Fin 512) : (I.wcat c (ix2 k ⟨512 + i.val, by omega⟩) : EReal) = atW wk k.val (512 * c.val + i.val) := by
  rw [← H.wk, ← pay75_apply (I.wk c)]
  refine (dif_neg (by show ¬ 512 + i.val < 512; omega)).trans ((dif_pos (by show 512 + i.val < 1024; omega)).trans ?_)
  have : (⟨512 + i.val - 512, by omega⟩ : Fin 512) = i := Fin.ext (by show 512 + i.val - 512 = i.val; omega)
  exact congrArg (fun q => k0_pay75 (I.wk c) (ix2 k q)) this

/-- then the values'. -/
theorem wcat_v (c : Dev nD) (k i : Fin 512) : (I.wcat c (ix2 k ⟨1024 + i.val, by omega⟩) : EReal) = atW wv k.val (512 * c.val + i.val) := by
  rw [← H.wv, ← pay76_apply (I.wv c)]
  refine (dif_neg (by show ¬ 1024 + i.val < 512; omega)).trans ((dif_neg (by show ¬ 1024 + i.val < 1024; omega)).trans ?_)
  have : (⟨1024 + i.val - 1024, by omega⟩ : Fin 512) = i := Fin.ext (by show 1024 + i.val - 1024 = i.val; omega)
  exact congrArg (fun q => k0_pay76 (I.wv c) (ix2 k q)) this

/-- The output weights at an entry. -/
theorem wob_apply (c : Dev nD) (k j : Fin 512) : (I.wob c (ix2 k j) : EReal) = atO wo (512 * c.val + k.val) j.val := by
  rw [Inp.wob, pay77_apply, H.wo]

/-- The queries' buffer holds the projection, -/
theorem qF_apply (c : Dev nD) (b : Fin 2) (R : Fin 1152) (i : Fin 512) :
    (I.qF c (ix3 b R i) : EReal) = proj (at3 x) (atW wq) b.val R.val (512 * c.val + i.val) := by
  show (qP b (I.xb (Inp.rowBlk R.val)) (I.wcat c) (ix3 0 ⟨R.val % 128, Nat.mod_lt _ (by decide)⟩ i) : EReal) = _
  rw [qP_apply, pay78_apply, proj]
  refine Finset.sum_congr rfl fun k _ => ?_
  rw [H.xb_apply, H.wcat_q]

/-- the keys', -/
theorem kF_apply (c : Dev nD) (b : Fin 2) (R : Fin 1024) (i : Fin 512) :
    (I.kF c (ix3 b R i) : EReal) = proj (at3 x) (atW wk) b.val R.val (512 * c.val + i.val) := by
  show (kP b (I.xb (Inp.rowBlk R.val)) (I.wcat c) (ix3 0 ⟨R.val % 128, Nat.mod_lt _ (by decide)⟩ i) : EReal) = _
  rw [kP_apply, pay78_apply, proj]
  refine Finset.sum_congr rfl fun k _ => ?_
  rw [H.xb_apply, H.wcat_k]

/-- and the values'. -/
theorem vF_apply (c : Dev nD) (b : Fin 2) (R : Fin 1024) (i : Fin 512) :
    (I.vF c (ix3 b R i) : EReal) = proj (at3 x) (atW wv) b.val R.val (512 * c.val + i.val) := by
  show (vP b (I.xb (Inp.rowBlk R.val)) (I.wcat c) (ix3 0 ⟨R.val % 128, Nat.mod_lt _ (by decide)⟩ i) : EReal) = _
  rw [vP_apply, pay78_apply, proj]
  refine Finset.sum_congr rfl fun k _ => ?_
  rw [H.xb_apply, H.wcat_v]

/-- A head's addition in a trip is that head's share. -/
theorem hAdd_eq (c : Dev nD) (n : Fin 8) (b : Fin 2) (t : Fin 4) (r : Fin 256) (j : Fin 512) (o : Fin 2) :
    hAdd (I.qT c n b t) (I.kT c b t) (I.vT c b t) (I.wT c t) r j o
      = headOut (proj (at3 x) (atW wq)) (proj (at3 x) (atW wk)) (proj (at3 x) (atW wv)) (atO wo) b.val (128 * n.val + r.val) j.val
          (512 * c.val + 64 * (2 * t.val + o.val)) := by
  have hQ : ∀ e : Fin 64, (I.qT c n b t (ix3 0 r ⟨64 * o.val + e.val, by omega⟩) : EReal)
      = proj (at3 x) (atW wq) b.val (128 * n.val + r.val) (512 * c.val + 64 * (2 * t.val + o.val) + e.val) := fun e => by
    refine (H.qF_apply c b ⟨128 * n.val + r.val, by omega⟩ ⟨128 * t.val + (64 * o.val + e.val), by omega⟩).trans ?_
    congr 1
    show 512 * c.val + (128 * t.val + (64 * o.val + e.val)) = _
    omega
  have hK : ∀ (s : Fin 1024) (e : Fin 64), (I.kT c b t (ix3 0 s ⟨64 * o.val + e.val, by omega⟩) : EReal)
      = proj (at3 x) (atW wk) b.val s.val (512 * c.val + 64 * (2 * t.val + o.val) + e.val) := fun s e => by
    refine (H.kF_apply c b s ⟨128 * t.val + (64 * o.val + e.val), by omega⟩).trans ?_
    congr 1
    show 512 * c.val + (128 * t.val + (64 * o.val + e.val)) = _
    omega
  have hV : ∀ (s : Fin 1024) (e : Fin 64), (I.vT c b t (ix3 0 s ⟨64 * o.val + e.val, by omega⟩) : EReal)
      = proj (at3 x) (atW wv) b.val s.val (512 * c.val + 64 * (2 * t.val + o.val) + e.val) := fun s e => by
    refine (H.vF_apply c b s ⟨128 * t.val + (64 * o.val + e.val), by omega⟩).trans ?_
    congr 1
    show 512 * c.val + (128 * t.val + (64 * o.val + e.val)) = _
    omega
  have hW : ∀ e : Fin 64, (I.wT c t (ix2 ⟨64 * o.val + e.val, by omega⟩ j) : EReal)
      = atO wo (512 * c.val + 64 * (2 * t.val + o.val) + e.val) j.val := fun e => by
    refine (H.wob_apply c ⟨128 * t.val + (64 * o.val + e.val), by omega⟩ j).trans ?_
    congr 1
    show 512 * c.val + (128 * t.val + (64 * o.val + e.val)) = _
    omega
  rw [hAdd, headOut]
  refine Finset.sum_congr rfl fun d _ => ?_
  simp only [hQ, hK, hV, hW, head, score]

/-- One trip of the loop. -/
theorem headAcc_succ (c : Dev nD) (n : Fin 8) (b : Fin 2) (t : Fin 4) (r : Fin 256) (j : Fin 512) :
    (I.headAcc c n b (t.val + 1) (ix2 r j) : EReal) = I.headAcc c n b t.val (ix2 r j)
      + hAdd (I.qT c n b t) (I.kT c b t) (I.vT c b t) (I.wT c t) r j 0 + hAdd (I.qT c n b t) (I.kT c b t) (I.vT c b t) (I.wT c t) r j 1 := by
  have : I.headAcc c n b (t.val + 1) = headP (I.headAcc c n b t.val) (I.qT c n b t) (I.kT c b t) (I.vT c b t) (I.wT c t) := by
    rw [Inp.headAcc, dif_pos t.isLt]
  rw [this, headP_apply, pay4_apply]

/-- The loop's sum is the device's share. -/
theorem headAcc_eq (c : Dev nD) (n : Fin 8) (b : Fin 2) (r : Fin 256) (j : Fin 512) :
    (I.headAcc c n b 4 (ix2 r j) : EReal) = whole x wq wk wv wo b.val (128 * n.val + r.val) j.val c.val := by
  have h0 : (I.headAcc c n b 0 (ix2 r j) : EReal) = 0 := pay174_apply r j
  have h1 := H.headAcc_succ c n b 0 r j
  have h2 := H.headAcc_succ c n b 1 r j
  have h3 := H.headAcc_succ c n b 2 r j
  have h4 := H.headAcc_succ c n b 3 r j
  simp only [H.hAdd_eq] at h1 h2 h3 h4
  refine h4.trans ?_
  rw [show ((3 : Fin 4).val) = (2 : Fin 4).val + 1 from rfl, h3, show ((2 : Fin 4).val) = (1 : Fin 4).val + 1 from rfl, h2,
    show ((1 : Fin 4).val) = (0 : Fin 4).val + 1 from rfl, h1, show ((0 : Fin 4).val) = 0 from rfl, h0, zero_add, whole, share,
    Fin.sum_univ_eight]
  rfl

end Blocks

end Cert.KernelIdeal.Gen.Mine
-- ==== Proof.Result.lean ====
module

public import proofs.«01_k».proof.Proof.KerValue
public import proofs.«01_k».proof.Proof.Start
public import Idealize.ShloMosaic.Lib.Pipeline.ValueKit.Geometry
public import Idealize.ShloMosaic.Lib.Layout

/-! # The kernel's result: on every device the sum of the eight devices' shares of its rows -/

@[expose] public section

noncomputable section

namespace Cert.KernelIdeal.Gen.Mine

open Cert.KernelIdeal Cert.KernelIdeal.Gen
open Idealize.ShloMosaic Idealize.ShloMosaic.TcCoe Idealize.SL.Sem
open Cert.Attention

/-- The result's rows repeat after 1024. -/
theorem whole_mod (x : FVec Ideal ⟨3, ![2, 1024, 512]⟩ .f32) (wq wk wv : FVec Ideal ⟨2, ![512, 4096]⟩ .f32)
    (wo : FVec Ideal ⟨2, ![4096, 512]⟩ .f32) (b R R' j p : Nat) (h : R % 1024 = R' % 1024) :
    whole x wq wk wv wo b R j p = whole x wq wk wv wo b R' j p := by
  have e : at3 x b R = at3 x b R' := funext fun k => at3_mod x b R R' k h
  simp only [whole, share, headOut, head, score, proj, e]

/-- An arrived sum and the own share, at an entry. -/
theorem add_apply (a w : Vec Ideal S2x128x512 .bf16) (b : Fin 2) (r : Fin 128) (j : Fin 512) :
    (Inp.add a w (ix3 b r j) : EReal) = (a (ix3 b r j) : EReal) + w (ix3 b r j) := by
  show (sq (addP (unsq a) w) (ix3 b r j) : EReal) = _
  refine (sq_apply (addP (unsq a) w) b r j).trans ?_
  exact addP_apply (unsq a) w b r j

/-- The eight devices, as the two chains around the ring name them. -/
theorem sum_ring (A : Dev nD → EReal) (c : Dev nD) :
    A c + (A (prv (prv (prv c))) + A (prv (prv c)) + A (prv c))
      + (A (nxt (nxt (nxt (nxt c)))) + A (nxt (nxt (nxt c))) + A (nxt (nxt c)) + A (nxt c)) = ∑ p : Fin 8, A p := by
  rw [Fin.sum_univ_eight]
  match c with
  | 0 => show A 0 + (A 5 + A 6 + A 7) + (A 4 + A 3 + A 2 + A 1) = _; ac_rfl
  | 1 => show A 1 + (A 6 + A 7 + A 0) + (A 5 + A 4 + A 3 + A 2) = _; ac_rfl
  | 2 => show A 2 + (A 7 + A 0 + A 1) + (A 6 + A 5 + A 4 + A 3) = _; ac_rfl
  | 3 => show A 3 + (A 0 + A 1 + A 2) + (A 7 + A 6 + A 5 + A 4) = _; ac_rfl
  | 4 => show A 4 + (A 1 + A 2 + A 3) + (A 0 + A 7 + A 6 + A 5) = _; ac_rfl
  | 5 => show A 5 + (A 2 + A 3 + A 4) + (A 1 + A 0 + A 7 + A 6) = _; ac_rfl
  | 6 => show A 6 + (A 3 + A 4 + A 5) + (A 2 + A 1 + A 0 + A 7) = _; ac_rfl
  | 7 => show A 7 + (A 4 + A 5 + A 6) + (A 3 + A 2 + A 1 + A 0) = _; ac_rfl

namespace Blocks
variable {I : Inp Ideal} {x : FVec Ideal ⟨3, ![2, 1024, 512]⟩ .f32} {wq wk wv : FVec Ideal ⟨2, ![512, 4096]⟩ .f32}
  {wo : FVec Ideal ⟨2, ![4096, 512]⟩ .f32} (H : Blocks I x wq wk wv wo)
include H

/-- The lower rows of a device's share of block `c`, -/
theorem lo_eq (c d : Dev nD) (n : Fin 8) (h : n.val = c.val) (b : Fin 2) (r : Fin 128) (j : Fin 512) :
    (lo (I.part d n) (ix3 b r j) : EReal) = whole x wq wk wv wo b.val (128 * c.val + r.val) j.val d.val := by
  show (partP (I.headAcc d n b 4) (ix3 0 ⟨r.val, by omega⟩ j) : EReal) = _
  rw [partP_apply, H.headAcc_eq, h]

/-- and the upper of the block before. -/
theorem hi_eq (c d : Dev nD) (n : Fin 8) (h : (n.val + 1) % 8 = c.val) (b : Fin 2) (r : Fin 128) (j : Fin 512) :
    (hi (I.part d n) (ix3 b r j) : EReal) = whole x wq wk wv wo b.val (128 * c.val + r.val) j.val d.val := by
  show (partP (I.headAcc d n b 4) (ix3 0 ⟨128 + r.val, by omega⟩ j) : EReal) = _
  rw [partP_apply, H.headAcc_eq]
  exact whole_mod _ _ _ _ _ _ _ _ _ _ (by show (128 * n.val + (128 + r.val)) % 1024 = (128 * c.val + r.val) % 1024; omega)

/-- The result on device `c`. -/
theorem out_apply (c : Dev nD) (b : Fin 2) (r : Fin 128) (j : Fin 512) :
    I.out c (ix3 b r j) = ∑ p : Fin 8, whole x wq wk wv wo b.val (128 * c.val + r.val) j.val p.val := by
  have hc : c.val < 8 := c.isLt
  have e : I.out c (ix3 b r j) = (hi (I.part c (blk c 7)) (ix3 b r j) : EReal) + I.s11 (prv c) (ix3 b r j) + I.s13 (nxt c) (ix3 b r j) :=
    outP_apply _ _ _ b r j
  rw [e, Inp.s11, add_apply, Inp.s9, add_apply, Inp.s7, Inp.s13, add_apply, Inp.s12, add_apply, Inp.s10, add_apply, Inp.s8]
  rw [H.hi_eq c c _ (by show ((c.val + 7) % 8 + 1) % 8 = c.val; omega),
    H.lo_eq c (prv (prv (prv c))) _ (by show ((((c.val + 7) % 8 + 7) % 8 + 7) % 8 + 3) % 8 = c.val; omega),
    H.hi_eq c (prv (prv c)) _ (by show ((((c.val + 7) % 8 + 7) % 8 + 1) % 8 + 1) % 8 = c.val; omega),
    H.lo_eq c (prv c) _ (by show ((c.val + 7) % 8 + 1) % 8 = c.val; omega),
    H.hi_eq c (nxt (nxt (nxt (nxt c)))) _ (by show ((((((c.val + 1) % 8 + 1) % 8 + 1) % 8 + 1) % 8 + 3) % 8 + 1) % 8 = c.val; omega),
    H.lo_eq c (nxt (nxt (nxt c))) _ (by show ((((c.val + 1) % 8 + 1) % 8 + 1) % 8 + 5) % 8 = c.val; omega),
    H.hi_eq c (nxt (nxt c)) _ (by show ((((c.val + 1) % 8 + 1) % 8 + 5) % 8 + 1) % 8 = c.val; omega),
    H.lo_eq c (nxt c) _ (by show ((c.val + 1) % 8 + 7) % 8 = c.val; omega)]
  exact sum_ring (fun d => whole x wq wk wv wo b.val (128 * c.val + r.val) j.val d.val) c

end Blocks

/-! ## The launch's inputs and result -/

section Launch
variable {F : FTy → Type} [FloatOps F]
variable (m : (ℓ : Loc nD τ sig) → Buf (Elt F) ℓ) (ρ : Dev nD → PrngReg)

/-- The one block of argument window 0 is the whole array. -/
theorem emb0 (j : S2x128x512.Idx) : (win0_0.blk (0 : Fin 1)).view.emb j = j := by
  funext a; apply Fin.ext
  match a with
  | ⟨0, _⟩ => show 0 * 2 + 1 * (j 0).val = (j 0).val; omega
  | ⟨1, _⟩ => show 0 * 128 + 1 * (j 1).val = (j 1).val; omega
  | ⟨2, _⟩ => show 0 * 512 + 1 * (j 2).val = (j 2).val; omega

/-- The one block of argument window 1 is the whole array. -/
theorem emb1 (j : S512x512.Idx) : (win0_1.blk (0 : Fin 1)).view.emb j = j := by
  funext a; apply Fin.ext
  match a with
  | ⟨0, _⟩ => show 0 * 512 + 1 * (j 0).val = (j 0).val; omega
  | ⟨1, _⟩ => show 0 * 512 + 1 * (j 1).val = (j 1).val; omega

/-- The one block of argument window 2 is the whole array. -/
theorem emb2 (j : S512x512.Idx) : (win0_2.blk (0 : Fin 1)).view.emb j = j := by
  funext a; apply Fin.ext
  match a with
  | ⟨0, _⟩ => show 0 * 512 + 1 * (j 0).val = (j 0).val; omega
  | ⟨1, _⟩ => show 0 * 512 + 1 * (j 1).val = (j 1).val; omega

/-- The one block of argument window 3 is the whole array. -/
theorem emb3 (j : S512x512.Idx) : (win0_3.blk (0 : Fin 1)).view.emb j = j := by
  funext a; apply Fin.ext
  match a with
  | ⟨0, _⟩ => show 0 * 512 + 1 * (j 0).val = (j 0).val; omega
  | ⟨1, _⟩ => show 0 * 512 + 1 * (j 1).val = (j 1).val; omega

/-- The one block of argument window 4 is the whole array. -/
theorem emb4 (j : S512x512.Idx) : (win0_4.blk (0 : Fin 1)).view.emb j = j := by
  funext a; apply Fin.ext
  match a with
  | ⟨0, _⟩ => show 0 * 512 + 1 * (j 0).val = (j 0).val; omega
  | ⟨1, _⟩ => show 0 * 512 + 1 * (j 1).val = (j 1).val; omega

/-- What the launch stages of argument 0 is that argument. -/
theorem inp_x (c : Dev nD) : (inp m ρ).x c = m ((c : Thread nD τ).loc main_arg0) := by
  funext j
  show m ((c : Thread nD τ).loc main_arg0) ((win0_0.blk (0 : Fin 1)).view.emb j) = _
  rw [emb0]

/-- What the launch stages of argument 1 is that argument. -/
theorem inp_wq (c : Dev nD) : (inp m ρ).wq c = m ((c : Thread nD τ).loc main_arg1) := by
  funext j
  show m ((c : Thread nD τ).loc main_arg1) ((win0_1.blk (0 : Fin 1)).view.emb j) = _
  rw [emb1]

/-- What the launch stages of argument 4 is that argument. -/
theorem inp_wo (c : Dev nD) : (inp m ρ).wo c = m ((c : Thread nD τ).loc main_arg4) := by
  funext j
  show m ((c : Thread nD τ).loc main_arg4) ((win0_2.blk (0 : Fin 1)).view.emb j) = _
  rw [emb2]

/-- What the launch stages of argument 2 is that argument. -/
theorem inp_wk (c : Dev nD) : (inp m ρ).wk c = m ((c : Thread nD τ).loc main_arg2) := by
  funext j
  show m ((c : Thread nD τ).loc main_arg2) ((win0_3.blk (0 : Fin 1)).view.emb j) = _
  rw [emb3]

/-- What the launch stages of argument 3 is that argument. -/
theorem inp_wv (c : Dev nD) : (inp m ρ).wv c = m ((c : Thread nD τ).loc main_arg3) := by
  funext j
  show m ((c : Thread nD τ).loc main_arg3) ((win0_4.blk (0 : Fin 1)).view.emb j) = _
  rw [emb4]

/-- The result array ends holding the result. -/
theorem finalA_out (c : Dev nD) : finalA m ρ c (5 : Fin 6) = (inp m ρ).out c := by
  refine (dats m ρ 0 c).arrAt_eq_of_after_last (5 : Fin 6) t0_0 (by decide +kernel) _ fun j => ?_
  rfl

end Launch

/-! ## Blocks of whole arrays -/

/-- Device `c`'s block of the tokens holds rows `128c` to `128c + 127`. -/
theorem block_x (v : FVec Ideal ⟨3, ![2, 1024, 512]⟩ .f32) (c : Fin 8) (b : Fin 2) (r : Fin 128) (k : Fin 512) :
    Layout.block ⟨3, ![2, 128, 512]⟩ ⟨3, ![2, 1024, 512]⟩ 1 8 c v (by decide) (ix3 b r k) = at3 v b.val (128 * c.val + r.val) k.val := by
  unfold at3
  refine congrArg v (funext fun a => Fin.ext ?_)
  match a with
  | ⟨0, _⟩ => show b.val = b.val % 2; omega
  | ⟨1, _⟩ => show c.val * 128 + r.val = (128 * c.val + r.val) % 1024; omega
  | ⟨2, _⟩ => show k.val = k.val % 512; omega

/-- Its block of a projection's weights holds columns `512c` to `512c + 511`. -/
theorem block_w (v : FVec Ideal ⟨2, ![512, 4096]⟩ .f32) (c : Fin 8) (k i : Fin 512) :
    Layout.block ⟨2, ![512, 512]⟩ ⟨2, ![512, 4096]⟩ 1 8 c v (by decide) (ix2 k i) = atW v k.val (512 * c.val + i.val) := by
  unfold atW
  refine congrArg v (funext fun a => Fin.ext ?_)
  match a with
  | ⟨0, _⟩ => show k.val = k.val % 512; omega
  | ⟨1, _⟩ => show c.val * 512 + i.val = (512 * c.val + i.val) % 4096; omega

/-- Its block of the output weights holds rows `512c` to `512c + 511`. -/
theorem block_o (v : FVec Ideal ⟨2, ![4096, 512]⟩ .f32) (c : Fin 8) (k j : Fin 512) :
    Layout.block ⟨2, ![512, 512]⟩ ⟨2, ![4096, 512]⟩ 0 8 c v (by decide) (ix2 k j) = atO v (512 * c.val + k.val) j.val := by
  unfold atO
  refine congrArg v (funext fun a => Fin.ext ?_)
  match a with
  | ⟨0, _⟩ => show c.val * 512 + k.val = (512 * c.val + k.val) % 4096; omega
  | ⟨1, _⟩ => show j.val = j.val % 512; omega

end Cert.KernelIdeal.Gen.Mine
-- ==== Proof.Finite.lean ====
module

public import proofs.«01_k».proof.Defs
public import proofs.«01_k».proof.Proof.Gen.Pre_finite_KernelIdeal
public import proofs.«01_k».proof.Proof.Gen.Pre_finite_ReferenceIdeal
public import Idealize.ShloMosaic.Lib.ReduceAll
public import Idealize.ShloMosaic.Lib.Affine
public import Idealize.ShloMosaic.PureOps.Ideal.Laws

/-! # What the precondition says: every entry of the tokens and of the queries' and keys' weights is real -/

@[expose] public section

noncomputable section

namespace Cert.Pre_finite_KernelIdeal.Mine

open Cert.Pre_finite_KernelIdeal Cert.Pre_finite_KernelIdeal.Gen
open Idealize.ShloMosaic

/-- A value whose absolute value is below infinity is real. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- The one index of a scalar. -/
instance : Subsingleton S_.Idx := ⟨fun a b => funext fun i => i.elim0⟩

/-- The precondition on one device's arguments makes the first three real. -/
theorem real_of_fn (x : FVec Ideal S2x128x512 .f32) (wq wk wv wo : FVec Ideal S512x512 .f32)
    (h : fn (F := Ideal) x wq wk wv wo = fun _ => 1#1) :
    (∀ i, ∃ r : ℝ, x i = (r : EReal)) ∧ (∀ i, ∃ r : ℝ, wq i = (r : EReal)) ∧ ∀ i, ∃ r : ℝ, wk i = (r : EReal) := by
  have h0 := congrFun h (fun a => a.elim0)
  obtain ⟨h12, h3⟩ := (IntOp.andi_eq_one).mp h0
  obtain ⟨h1, h2⟩ := (IntOp.andi_eq_one).mp h12
  refine ⟨fun i => ?_, fun i => ?_, fun i => ?_⟩
  · exact real_of_lt _ (Host.reduce_andi_all _ _ _ _ _ h1 i)
  · exact real_of_lt _ (Host.reduce_andi_all _ _ _ _ _ h2 i)
  · exact real_of_lt _ (Host.reduce_andi_all _ _ _ _ _ h3 i)

end Cert.Pre_finite_KernelIdeal.Mine
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Twin
public import proofs.«01_k».proof.Proof.RefSpec
public import proofs.«01_k».proof.Proof.Result
public import proofs.«01_k».proof.Proof.Finite
public import Idealize.ShloMosaic.Adequacy
public import Idealize.ShloMosaic.Init

@[expose] public section

noncomputable section

namespace Cert.Proof

open Idealize.ShloMosaic Idealize.SL.Sem
open Cert.Attention Cert.KernelIdeal.Gen.Mine

/-- The printed kernel runs, leaves its arguments alone and every counter at zero. -/
theorem frame_kernel : Cert.quiescent_Kernel := fun m g _ =>
  Cert.KernelIdeal.Gen.Mine.frames_same.mpr (fun m g => θ_run_mono (Cert.KernelIdeal.Gen.Mine.run_all m g) fun _ h => h.1) m g

/-- So does its idealized reading, -/
theorem frame_ideal : Cert.quiescent_KernelIdeal := fun m g _ =>
  θ_run_mono (Cert.KernelIdeal.Gen.Mine.run_all m g) fun _ h => h.1

/-- from finite arguments too, -/
theorem frame_ideal_finite : Cert.quiescent_KernelIdeal_pre_finite_KernelIdeal := fun m g _ => frame_ideal m g trivial

/-- and the reference's, -/
theorem frame_ref : Cert.quiescent_ReferenceIdeal := fun m g _ =>
  θ_run_mono (Cert.ReferenceIdeal.Gen.Mine.run_ref m g) fun _ h => ⟨fun c => (h.1 c).2, h.2⟩

/-- from finite arguments too. -/
theorem frame_ref_finite : Cert.quiescent_ReferenceIdeal_pre_finite_ReferenceIdeal := fun m g _ => frame_ref m g trivial

/-- An array is real if every device's block of it along its columns is. -/
theorem real_w (v : FVec Ideal ⟨2, ![512, 4096]⟩ .f32)
    (h : ∀ (c : Fin 8) i, ∃ r : ℝ, Layout.block ⟨2, ![512, 512]⟩ ⟨2, ![512, 4096]⟩ 1 8 c v (by decide) i = (r : EReal)) (i) :
    ∃ r : ℝ, v i = (r : EReal) := by
  obtain ⟨a, b, rfl⟩ : ∃ (a : Fin 512) (b : Fin 4096), i = ix2 a b := ⟨i 0, i 1, by funext a; fin_cases a <;> rfl⟩
  obtain ⟨r, hr⟩ := h ⟨b.val / 512, by omega⟩ (ix2 a ⟨b.val % 512, by omega⟩)
  refine ⟨r, Eq.trans (congrArg v (funext fun k => Fin.ext ?_)) hr⟩
  match k with
  | ⟨0, _⟩ => rfl
  | ⟨1, _⟩ => show b.val = b.val / 512 * 512 + b.val % 512; omega

/-- So are the tokens if every device's rows are. -/
theorem real_x (v : FVec Ideal ⟨3, ![2, 1024, 512]⟩ .f32)
    (h : ∀ (c : Fin 8) i, ∃ r : ℝ, Layout.block ⟨3, ![2, 128, 512]⟩ ⟨3, ![2, 1024, 512]⟩ 1 8 c v (by decide) i = (r : EReal)) (i) :
    ∃ r : ℝ, v i = (r : EReal) := by
  obtain ⟨a, b, d, rfl⟩ : ∃ (a : Fin 2) (b : Fin 1024) (d : Fin 512), i = ix3 a b d :=
    ⟨i 0, i 1, i 2, by funext a; fin_cases a <;> rfl⟩
  obtain ⟨r, hr⟩ := h ⟨b.val / 128, by omega⟩ (ix3 a ⟨b.val % 128, by omega⟩ d)
  refine ⟨r, Eq.trans (congrArg v (funext fun k => Fin.ext ?_)) hr⟩
  match k with
  | ⟨0, _⟩ => rfl
  | ⟨1, _⟩ => show b.val = b.val / 128 * 128 + b.val % 128; omega
  | ⟨2, _⟩ => rfl

/-- The reference's result of the arguments in a memory of its. -/
abbrev refOut (m' : (ℓ : Loc Cert.ReferenceIdeal.nD Cert.ReferenceIdeal.τ Cert.ReferenceIdeal.sig) → Buf (Elt Ideal) ℓ) :
    FVec Ideal ⟨3, ![2, 1024, 512]⟩ .f32 :=
  Cert.ReferenceIdeal.Gen.Mine.rOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))

/-- Over the extended reals, from finite tokens and finite weights of the queries and keys, every device ends with its rows of the
    reference's result. -/
theorem values : Cert.algebraic_KernelIdeal_ReferenceIdeal_pre_finite_KernelIdeal := fun m g m' g' hpre hin => by
  have hreal := fun c => Cert.Pre_finite_KernelIdeal.Mine.real_of_fn _ _ _ _ _ (hpre c)
  have hx := real_x _ fun c i => by have := (hreal c).1 i; rw [(hin c).1] at this; exact this
  have hq := real_w _ fun c i => by have := (hreal c).2.1 i; rw [(hin c).2.1] at this; exact this
  have hk := real_w _ fun c i => by have := (hreal c).2.2 i; rw [(hin c).2.2.1] at this; exact this
  have H : Blocks (inp m g) _ _ _ _ _ :=
    { x := fun c b r k => by rw [inp_x, (hin c).1]; exact block_x _ c b r k
      wq := fun c k i => by rw [inp_wq, (hin c).2.1]; exact block_w _ c k i
      wk := fun c k i => by rw [inp_wk, (hin c).2.2.1]; exact block_w _ c k i
      wv := fun c k i => by rw [inp_wv, (hin c).2.2.2.1]; exact block_w _ c k i
      wo := fun c k j => by rw [inp_wo, (hin c).2.2.2.2]; exact block_o _ c k j }
  refine ⟨refOut m', ?_, ?_⟩
  rotate_left
  · exact θ_run_mono (Cert.ReferenceIdeal.Gen.Mine.run_ref m' g') fun _ h => h.1 0
  · refine θ_run_mono (run_all m g) fun r h c => ⟨?_, h.1.1 c⟩
    rw [h.2 c, finalA_out]
    funext i
    obtain ⟨b, t, j, rfl⟩ : ∃ (b : Fin 2) (t : Fin 128) (j : Fin 512), i = ix3 b t j :=
      ⟨i 0, i 1, i 2, by funext a; fin_cases a <;> rfl⟩
    rw [H.out_apply]
    have hc : c.val < 8 := c.isLt
    refine (Cert.ReferenceIdeal.Gen.Mine.rOut_eq _ _ _ _ _ hx hq hk b ⟨128 * c.val + t.val, by omega⟩ j).symm.trans ?_
    refine congrArg (refOut m') (funext fun a => Fin.ext ?_)
    match a with
    | ⟨0, _⟩ => rfl
    | ⟨1, _⟩ => show 128 * c.val + t.val = c.val * 128 + t.val; omega
    | ⟨2, _⟩ => rfl

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_finite, frame_ref, frame_ref_finite, trivial, values⟩

end Cert.Proof

end
